-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩
abbrev S1024x1024 : Shape := ⟨2, ![1024, 1024]⟩
abbrev S1024x8x128 : Shape := ⟨3, ![1024, 8, 128]⟩
abbrev S8x1024x128 : Shape := ⟨3, ![8, 1024, 128]⟩
abbrev S31x32x1024 : Shape := ⟨3, ![31, 32, 1024]⟩
abbrev S31 : Shape := ⟨1, ![31]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 36
  | .vmem => 10
  | .smem => 0
  | _ => 0

abbrev bufTy : (tb : Table) → Fin (tcTables nBuf tb) → BufTy
  | .hbm, ⟨0, _⟩ => ⟨S1x1024x1024, .bf16⟩
  | .hbm, ⟨1, _⟩ => ⟨S1024x32768, .bf16⟩
  | .hbm, ⟨2, _⟩ => ⟨S1x1024x8x128, .bf16⟩
  | .hbm, ⟨3, _⟩ => ⟨S1x1024x8x128, .bf16⟩
  | .hbm, ⟨4, _⟩ => ⟨S32768x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S1024x8x128, .bf16⟩
  | .hbm, ⟨22, _⟩ => ⟨S8x1024x128, .bf16⟩
  | .hbm, ⟨23, _⟩ => ⟨S1024x8x128, .bf16⟩
  | .hbm, ⟨24, _⟩ => ⟨S8x1024x128, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x1024, .bf16⟩
  | .hbm, ⟨34, _⟩ => ⟨S1024x1024, .f32⟩
  | .hbm, ⟨35, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .f32⟩
  | .local _ .vmem, ⟨6, _⟩ => ⟨S31x32x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 130 → Bool
  | ⟨i, _⟩ => dmaSemScopedAt i

abbrev sig : RefSig :=
  (ofTc nBuf bufTy 2 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_163 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v293 : BitVec 32 := Scalar.subi v2 c0_i32_163
  let c32_i32_164 : BitVec 32 := 32#32
  let v294 : BitVec 32 := Scalar.addi v293 c32_i32_164
  let c32_i32_165 : BitVec 32 := 32#32
  let v295 : BitVec 32 := Scalar.remsi v294 c32_i32_165
  let c32_i32_170 : BitVec 32 := 32#32
  let v300 : BitVec 32 := Scalar.muli v295 c32_i32_170
  let c0_i32_178 : BitVec 32 := 0#32
  ![v300.toNat, 0]
def k0_dev3 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_174 : BitVec 32 := 1#32
  let v301 : BitVec 32 := Scalar.muli v7 c1_i32_174
  let v302 : BitVec 32 := Scalar.addi c0_i32_175 v301
  v302.toNat
def k0_off2 (d0 : Dev nD) (c0_i32_166 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v296 : BitVec 32 := Scalar.subi v2 c0_i32_166
  let c1_i32_167 : BitVec 32 := 1#32
  let v297 : BitVec 32 := Scalar.subi v296 c1_i32_167
  let c32_i32_168 : BitVec 32 := 32#32
  let v298 : BitVec 32 := Scalar.addi v297 c32_i32_168
  let c32_i32_169 : BitVec 32 := 32#32
  let v299 : BitVec 32 := Scalar.remsi v298 c32_i32_169
  let c32_i32_194 : BitVec 32 := 32#32
  let v322 : BitVec 32 := Scalar.muli v299 c32_i32_194
  let v323 : Index := Scalar.indexCast v322
  let c0_195 : Index := 0#32
  ![v323.toNat, 0]
def k0_dev4 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_212 : BitVec 32 := 1#32
  let v340 : BitVec 32 := Scalar.muli v7 c1_i32_212
  let v341 : BitVec 32 := Scalar.addi c0_i32_213 v340
  v341.toNat
def k0_dev5 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_250 : BitVec 32 := 1#32
  let v379 : BitVec 32 := Scalar.muli v7 c1_i32_250
  let v380 : BitVec 32 := Scalar.addi c0_i32_251 v379
  v380.toNat
def k0_dev6 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_288 : BitVec 32 := 1#32
  let v418 : BitVec 32 := Scalar.muli v7 c1_i32_288
  let v419 : BitVec 32 := Scalar.addi c0_i32_289 v418
  v419.toNat
def k0_dev7 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_325 : BitVec 32 := 1#32
  let v457 : BitVec 32 := Scalar.muli v7 c1_i32_325
  let v458 : BitVec 32 := Scalar.addi c0_i32_326 v457
  v458.toNat
def k0_dev8 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_362 : BitVec 32 := 1#32
  let v496 : BitVec 32 := Scalar.muli v7 c1_i32_362
  let v497 : BitVec 32 := Scalar.addi c0_i32_363 v496
  v497.toNat
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_399 : BitVec 32 := 1#32
  let v535 : BitVec 32 := Scalar.muli v7 c1_i32_399
  let v536 : BitVec 32 := Scalar.addi c0_i32_400 v535
  v536.toNat
def k0_dev10 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_436 : BitVec 32 := 1#32
  let v574 : BitVec 32 := Scalar.muli v7 c1_i32_436
  let v575 : BitVec 32 := Scalar.addi c0_i32_437 v574
  v575.toNat
def k0_dev11 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_473 : BitVec 32 := 1#32
  let v613 : BitVec 32 := Scalar.muli v7 c1_i32_473
  let v614 : BitVec 32 := Scalar.addi c0_i32_474 v613
  v614.toNat
def k0_dev12 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_509 : BitVec 32 := 1#32
  let v652 : BitVec 32 := Scalar.muli v7 c1_i32_509
  let v653 : BitVec 32 := Scalar.addi c0_i32_510 v652
  v653.toNat
def k0_dev13 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_545 : BitVec 32 := 1#32
  let v691 : BitVec 32 := Scalar.muli v7 c1_i32_545
  let v692 : BitVec 32 := Scalar.addi c0_i32_546 v691
  v692.toNat
def k0_dev14 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_581 : BitVec 32 := 1#32
  let v730 : BitVec 32 := Scalar.muli v7 c1_i32_581
  let v731 : BitVec 32 := Scalar.addi c0_i32_582 v730
  v731.toNat
def k0_dev15 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_617 : BitVec 32 := 1#32
  let v769 : BitVec 32 := Scalar.muli v7 c1_i32_617
  let v770 : BitVec 32 := Scalar.addi c0_i32_618 v769
  v770.toNat
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_653 : BitVec 32 := 1#32
  let v808 : BitVec 32 := Scalar.muli v7 c1_i32_653
  let v809 : BitVec 32 := Scalar.addi c0_i32_654 v808
  v809.toNat
def k0_dev17 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_689 : BitVec 32 := 1#32
  let v847 : BitVec 32 := Scalar.muli v7 c1_i32_689
  let v848 : BitVec 32 := Scalar.addi c0_i32_690 v847
  v848.toNat
def k0_dev18 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_725 : BitVec 32 := 1#32
  let v886 : BitVec 32 := Scalar.muli v7 c1_i32_725
  let v887 : BitVec 32 := Scalar.addi c0_i32_726 v886
  v887.toNat
def k0_dev19 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_761 : BitVec 32 := 1#32
  let v925 : BitVec 32 := Scalar.muli v7 c1_i32_761
  let v926 : BitVec 32 := Scalar.addi c0_i32_762 v925
  v926.toNat
def k0_dev20 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_797 : BitVec 32 := 1#32
  let v964 : BitVec 32 := Scalar.muli v7 c1_i32_797
  let v965 : BitVec 32 := Scalar.addi c0_i32_798 v964
  v965.toNat
def k0_dev21 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_833 : BitVec 32 := 1#32
  let v1003 : BitVec 32 := Scalar.muli v7 c1_i32_833
  let v1004 : BitVec 32 := Scalar.addi c0_i32_834 v1003
  v1004.toNat
def k0_dev22 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_869 : BitVec 32 := 1#32
  let v1042 : BitVec 32 := Scalar.muli v7 c1_i32_869
  let v1043 : BitVec 32 := Scalar.addi c0_i32_870 v1042
  v1043.toNat
def k0_dev23 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_905 : BitVec 32 := 1#32
  let v1081 : BitVec 32 := Scalar.muli v7 c1_i32_905
  let v1082 : BitVec 32 := Scalar.addi c0_i32_906 v1081
  v1082.toNat
def k0_dev24 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_941 : BitVec 32 := 1#32
  let v1120 : BitVec 32 := Scalar.muli v7 c1_i32_941
  let v1121 : BitVec 32 := Scalar.addi c0_i32_942 v1120
  v1121.toNat
def k0_dev25 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_977 : BitVec 32 := 1#32
  let v1159 : BitVec 32 := Scalar.muli v7 c1_i32_977
  let v1160 : BitVec 32 := Scalar.addi c0_i32_978 v1159
  v1160.toNat
def k0_dev26 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1013 : BitVec 32 := 1#32
  let v1198 : BitVec 32 := Scalar.muli v7 c1_i32_1013
  let v1199 : BitVec 32 := Scalar.addi c0_i32_1014 v1198
  v1199.toNat
def k0_dev27 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1049 : BitVec 32 := 1#32
  let v1237 : BitVec 32 := Scalar.muli v7 c1_i32_1049
  let v1238 : BitVec 32 := Scalar.addi c0_i32_1050 v1237
  v1238.toNat
def k0_dev28 (d0 : Dev nD) : Nat :=
  let c0_i32_1086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1085 : BitVec 32 := 1#32
  let v1276 : BitVec 32 := Scalar.muli v7 c1_i32_1085
  let v1277 : BitVec 32 := Scalar.addi c0_i32_1086 v1276
  v1277.toNat
def k0_dev29 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1121 : BitVec 32 := 1#32
  let v1315 : BitVec 32 := Scalar.muli v7 c1_i32_1121
  let v1316 : BitVec 32 := Scalar.addi c0_i32_1122 v1315
  v1316.toNat
def k0_dev30 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1157 : BitVec 32 := 1#32
  let v1354 : BitVec 32 := Scalar.muli v7 c1_i32_1157
  let v1355 : BitVec 32 := Scalar.addi c0_i32_1158 v1354
  v1355.toNat
def k0_dev31 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1193 : BitVec 32 := 1#32
  let v1393 : BitVec 32 := Scalar.muli v7 c1_i32_1193
  let v1394 : BitVec 32 := Scalar.addi c0_i32_1194 v1393
  v1394.toNat
def k0_dev32 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1229 : BitVec 32 := 1#32
  let v1432 : BitVec 32 := Scalar.muli v7 c1_i32_1229
  let v1433 : BitVec 32 := Scalar.addi c0_i32_1230 v1432
  v1433.toNat
def k0_dev33 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1265 : BitVec 32 := 1#32
  let v1471 : BitVec 32 := Scalar.muli v7 c1_i32_1265
  let v1472 : BitVec 32 := Scalar.addi c0_i32_1266 v1471
  v1472.toNat
def k0_off3 (d0 : Dev nD) (c0_i32_1292 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1291 : BitVec 32 := 1#32
  let v1502 : BitVec 32 := Scalar.addi v2 c1_i32_1291
  let v1503 : BitVec 32 := Scalar.subi v1502 c0_i32_1292
  let c32_i32_1293 : BitVec 32 := 32#32
  let v1504 : BitVec 32 := Scalar.addi v1503 c32_i32_1293
  let c32_i32_1294 : BitVec 32 := 32#32
  let v1505 : BitVec 32 := Scalar.remsi v1504 c32_i32_1294
  let c32_i32_1296 : BitVec 32 := 32#32
  let v1507 : BitVec 32 := Scalar.muli v1505 c32_i32_1296
  let c0_i32_1301 : BitVec 32 := 0#32
  ![v1507.toNat, 0]
def k0_dev34 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1299 : BitVec 32 := 1#32
  let v1508 : BitVec 32 := Scalar.muli v7 c1_i32_1299
  let v1509 : BitVec 32 := Scalar.addi c0_i32_1300 v1508
  v1509.toNat
def k0_dev35 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1322 : BitVec 32 := 1#32
  let v1532 : BitVec 32 := Scalar.muli v7 c1_i32_1322
  let v1533 : BitVec 32 := Scalar.addi c0_i32_1323 v1532
  v1533.toNat
def k0_dev36 (d0 : Dev nD) : Nat :=
  let c0_i32_1346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1345 : BitVec 32 := 1#32
  let v1556 : BitVec 32 := Scalar.muli v7 c1_i32_1345
  let v1557 : BitVec 32 := Scalar.addi c0_i32_1346 v1556
  v1557.toNat
def k0_dev37 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1368 : BitVec 32 := 1#32
  let v1580 : BitVec 32 := Scalar.muli v7 c1_i32_1368
  let v1581 : BitVec 32 := Scalar.addi c0_i32_1369 v1580
  v1581.toNat
def k0_dev38 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1391 : BitVec 32 := 1#32
  let v1604 : BitVec 32 := Scalar.muli v7 c1_i32_1391
  let v1605 : BitVec 32 := Scalar.addi c0_i32_1392 v1604
  v1605.toNat
def k0_dev39 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1414 : BitVec 32 := 1#32
  let v1628 : BitVec 32 := Scalar.muli v7 c1_i32_1414
  let v1629 : BitVec 32 := Scalar.addi c0_i32_1415 v1628
  v1629.toNat
def k0_dev40 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1437 : BitVec 32 := 1#32
  let v1652 : BitVec 32 := Scalar.muli v7 c1_i32_1437
  let v1653 : BitVec 32 := Scalar.addi c0_i32_1438 v1652
  v1653.toNat
def k0_dev41 (d0 : Dev nD) : Nat :=
  let c0_i32_1461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1460 : BitVec 32 := 1#32
  let v1676 : BitVec 32 := Scalar.muli v7 c1_i32_1460
  let v1677 : BitVec 32 := Scalar.addi c0_i32_1461 v1676
  v1677.toNat
def k0_dev42 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1483 : BitVec 32 := 1#32
  let v1700 : BitVec 32 := Scalar.muli v7 c1_i32_1483
  let v1701 : BitVec 32 := Scalar.addi c0_i32_1484 v1700
  v1701.toNat
def k0_dev43 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1506 : BitVec 32 := 1#32
  let v1724 : BitVec 32 := Scalar.muli v7 c1_i32_1506
  let v1725 : BitVec 32 := Scalar.addi c0_i32_1507 v1724
  v1725.toNat
def k0_dev44 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1529 : BitVec 32 := 1#32
  let v1748 : BitVec 32 := Scalar.muli v7 c1_i32_1529
  let v1749 : BitVec 32 := Scalar.addi c0_i32_1530 v1748
  v1749.toNat
def k0_dev45 (d0 : Dev nD) : Nat :=
  let c0_i32_1553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1552 : BitVec 32 := 1#32
  let v1772 : BitVec 32 := Scalar.muli v7 c1_i32_1552
  let v1773 : BitVec 32 := Scalar.addi c0_i32_1553 v1772
  v1773.toNat
def k0_dev46 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1575 : BitVec 32 := 1#32
  let v1796 : BitVec 32 := Scalar.muli v7 c1_i32_1575
  let v1797 : BitVec 32 := Scalar.addi c0_i32_1576 v1796
  v1797.toNat
def k0_dev47 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1598 : BitVec 32 := 1#32
  let v1820 : BitVec 32 := Scalar.muli v7 c1_i32_1598
  let v1821 : BitVec 32 := Scalar.addi c0_i32_1599 v1820
  v1821.toNat
def k0_dev48 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1621 : BitVec 32 := 1#32
  let v1844 : BitVec 32 := Scalar.muli v7 c1_i32_1621
  let v1845 : BitVec 32 := Scalar.addi c0_i32_1622 v1844
  v1845.toNat
def k0_dev49 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1644 : BitVec 32 := 1#32
  let v1868 : BitVec 32 := Scalar.muli v7 c1_i32_1644
  let v1869 : BitVec 32 := Scalar.addi c0_i32_1645 v1868
  v1869.toNat
def k0_dev50 (d0 : Dev nD) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1667 : BitVec 32 := 1#32
  let v1892 : BitVec 32 := Scalar.muli v7 c1_i32_1667
  let v1893 : BitVec 32 := Scalar.addi c0_i32_1668 v1892
  v1893.toNat
def k0_dev51 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1690 : BitVec 32 := 1#32
  let v1916 : BitVec 32 := Scalar.muli v7 c1_i32_1690
  let v1917 : BitVec 32 := Scalar.addi c0_i32_1691 v1916
  v1917.toNat
def k0_dev52 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1713 : BitVec 32 := 1#32
  let v1940 : BitVec 32 := Scalar.muli v7 c1_i32_1713
  let v1941 : BitVec 32 := Scalar.addi c0_i32_1714 v1940
  v1941.toNat
def k0_dev53 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1736 : BitVec 32 := 1#32
  let v1964 : BitVec 32 := Scalar.muli v7 c1_i32_1736
  let v1965 : BitVec 32 := Scalar.addi c0_i32_1737 v1964
  v1965.toNat
def k0_dev54 (d0 : Dev nD) : Nat :=
  let c0_i32_1760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1759 : BitVec 32 := 1#32
  let v1988 : BitVec 32 := Scalar.muli v7 c1_i32_1759
  let v1989 : BitVec 32 := Scalar.addi c0_i32_1760 v1988
  v1989.toNat
def k0_dev55 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1782 : BitVec 32 := 1#32
  let v2012 : BitVec 32 := Scalar.muli v7 c1_i32_1782
  let v2013 : BitVec 32 := Scalar.addi c0_i32_1783 v2012
  v2013.toNat
def k0_dev56 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1805 : BitVec 32 := 1#32
  let v2036 : BitVec 32 := Scalar.muli v7 c1_i32_1805
  let v2037 : BitVec 32 := Scalar.addi c0_i32_1806 v2036
  v2037.toNat
def k0_dev57 (d0 : Dev nD) : Nat :=
  let c0_i32_1829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1828 : BitVec 32 := 1#32
  let v2060 : BitVec 32 := Scalar.muli v7 c1_i32_1828
  let v2061 : BitVec 32 := Scalar.addi c0_i32_1829 v2060
  v2061.toNat
def k0_dev58 (d0 : Dev nD) : Nat :=
  let c0_i32_1852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1851 : BitVec 32 := 1#32
  let v2084 : BitVec 32 := Scalar.muli v7 c1_i32_1851
  let v2085 : BitVec 32 := Scalar.addi c0_i32_1852 v2084
  v2085.toNat
def k0_dev59 (d0 : Dev nD) : Nat :=
  let c0_i32_1875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1874 : BitVec 32 := 1#32
  let v2108 : BitVec 32 := Scalar.muli v7 c1_i32_1874
  let v2109 : BitVec 32 := Scalar.addi c0_i32_1875 v2108
  v2109.toNat
def k0_dev60 (d0 : Dev nD) : Nat :=
  let c0_i32_1898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1897 : BitVec 32 := 1#32
  let v2132 : BitVec 32 := Scalar.muli v7 c1_i32_1897
  let v2133 : BitVec 32 := Scalar.addi c0_i32_1898 v2132
  v2133.toNat
def k0_dev61 (d0 : Dev nD) : Nat :=
  let c0_i32_1921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1920 : BitVec 32 := 1#32
  let v2156 : BitVec 32 := Scalar.muli v7 c1_i32_1920
  let v2157 : BitVec 32 := Scalar.addi c0_i32_1921 v2156
  v2157.toNat
def k0_dev62 (d0 : Dev nD) : Nat :=
  let c0_i32_1944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1943 : BitVec 32 := 1#32
  let v2180 : BitVec 32 := Scalar.muli v7 c1_i32_1943
  let v2181 : BitVec 32 := Scalar.addi c0_i32_1944 v2180
  v2181.toNat
def k0_dev63 (d0 : Dev nD) : Nat :=
  let c0_i32_1967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1966 : BitVec 32 := 1#32
  let v2204 : BitVec 32 := Scalar.muli v7 c1_i32_1966
  let v2205 : BitVec 32 := Scalar.addi c0_i32_1967 v2204
  v2205.toNat
def k0_dev64 (d0 : Dev nD) : Nat :=
  let c0_i32_1990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1989 : BitVec 32 := 1#32
  let v2228 : BitVec 32 := Scalar.muli v7 c1_i32_1989
  let v2229 : BitVec 32 := Scalar.addi c0_i32_1990 v2228
  v2229.toNat
def k0_dev65 (d0 : Dev nD) : Nat :=
  let c0_i32_2006_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2005_r0 : BitVec 32 := 1#32
  let v2247_r0 : BitVec 32 := Scalar.muli v5 c1_i32_2005_r0
  let v2248_r0 : BitVec 32 := Scalar.addi c0_i32_2006_r0 v2247_r0
  v2248_r0.toNat
def k0_dev66 (d0 : Dev nD) : Nat :=
  let c0_i32_2009_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2008_r0 : BitVec 32 := 1#32
  let v2249_r0 : BitVec 32 := Scalar.muli v7 c1_i32_2008_r0
  let v2250_r0 : BitVec 32 := Scalar.addi c0_i32_2009_r0 v2249_r0
  v2250_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x32768, .bf16⟩
  | .hbm, ⟨2, _⟩ => ⟨S1x1024x256x128, .bf16⟩
  | .hbm, ⟨3, _⟩ => ⟨S1x1024x256x128, .bf16⟩
  | .hbm, ⟨4, _⟩ => ⟨S32768x1024, .bf16⟩
  | .hbm, ⟨5, _⟩ => ⟨S1x1024x32768, .f32⟩
  | .hbm, ⟨6, _⟩ => ⟨S1x1024x32768, .bf16⟩
  | .hbm, ⟨7, _⟩ => ⟨S1x1024x256x128, .bf16⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S_, .i32⟩
  | .hbm, ⟨52, _⟩ => ⟨S1x1024, .i32⟩
  | .hbm, ⟨53, _⟩ => ⟨S1x1024, .i1⟩
  | .hbm, ⟨54, _⟩ => ⟨S1024x1024, .i1⟩
  | .hbm, ⟨55, _⟩ => ⟨S1024x1024, .i1⟩
  | .hbm, ⟨56, _⟩ => ⟨S1024x1024, .i32⟩
  | .hbm, ⟨57, _⟩ => ⟨S1024x1024, .i32⟩
  | .hbm, ⟨58, _⟩ => ⟨S1024x1024, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S_, .i32⟩
  | .hbm, ⟨68, _⟩ => ⟨S1024x1024, .i32⟩
  | .hbm, ⟨69, _⟩ => ⟨S1024x1024, .i1⟩
  | .hbm, ⟨70, _⟩ => ⟨S_, .i32⟩
  | .hbm, ⟨71, _⟩ => ⟨S1024x1024, .i32⟩
  | .hbm, ⟨72, _⟩ => ⟨S1024x1024, .i1⟩
  | .hbm, ⟨73, _⟩ => ⟨S_, .i32⟩
  | .hbm, ⟨74, _⟩ => ⟨S_, .i1⟩
  | .hbm, ⟨75, _⟩ => ⟨S1024x1024, .i1⟩
  | .hbm, ⟨76, _⟩ => ⟨S1024x1024, .i1⟩
  | .hbm, ⟨77, _⟩ => ⟨S1024x1024, .i1⟩
  | .hbm, ⟨78, _⟩ => ⟨S1024x1024, .i32⟩
  | .hbm, ⟨79, _⟩ => ⟨S1024x1024, .i32⟩
  | .hbm, ⟨80, _⟩ => ⟨S1024x1024, .i32⟩
  | .hbm, ⟨81, _⟩ => ⟨S_, .i32⟩
  | .hbm, ⟨82, _⟩ => ⟨S1024x1024, .i32⟩
  | .hbm, ⟨83, _⟩ => ⟨S1024x1024, .i1⟩
  | .hbm, ⟨84, _⟩ => ⟨S1024x1024, .i1⟩
  | .hbm, ⟨85, _⟩ => ⟨S1x256x1024x1024, .f32⟩
  | .hbm, ⟨86, _⟩ => ⟨S1x256x1024x1024, .bf16⟩
  | .hbm, ⟨87, _⟩ => ⟨S1x256x1024x1024, .f32⟩
  | .hbm, ⟨88, _⟩ => ⟨S_, .f32⟩
  | .hbm, ⟨89, _⟩ => ⟨S1x256x1024x1024, .f32⟩
  | .hbm, ⟨90, _⟩ => ⟨S1x256x1024x1024, .f32⟩
  | .hbm, ⟨91, _⟩ => ⟨S1x1x1024x1024, .i1⟩
  | .hbm, ⟨92, _⟩ => ⟨S_, .f32⟩
  | .hbm, ⟨93, _⟩ => ⟨S_, .f32⟩
  | .hbm, ⟨94, _⟩ => ⟨S1x256x1024x1024, .i1⟩
  | .hbm, ⟨95, _⟩ => ⟨S1x256x1024x1024, .f32⟩
  | .hbm, ⟨96, _⟩ => ⟨S1x256x1024x1024, .f32⟩
  | .hbm, ⟨97, _⟩ => ⟨S_, .f32⟩
  | .hbm, ⟨98, _⟩ => ⟨S1x256x1024, .f32⟩
  | .hbm, ⟨99, _⟩ => ⟨S1x256x1024x1, .f32⟩
  | .hbm, ⟨100, _⟩ => ⟨S1x256x1024x1024, .f32⟩
  | .hbm, ⟨101, _⟩ => ⟨S1x256x1024x1024, .f32⟩
  | .hbm, ⟨102, _⟩ => ⟨S1x256x1024x1024, .f32⟩
  | .hbm, ⟨103, _⟩ => ⟨S_, .i1⟩
  | .hbm, ⟨104, _⟩ => ⟨S1024, .i1⟩
  | .hbm, ⟨105, _⟩ => ⟨S1x1x1024x1, .i1⟩
  | .hbm, ⟨106, _⟩ => ⟨S_, .f32⟩
  | .hbm, ⟨107, _⟩ => ⟨S1x256x1024, .f32⟩
  | .hbm, ⟨108, _⟩ => ⟨S1x256x1024x1, .f32⟩
  | .hbm, ⟨109, _⟩ => ⟨S_, .f32⟩
  | .hbm, ⟨110, _⟩ => ⟨S_, .f32⟩
  | .hbm, ⟨111, _⟩ => ⟨S1x256x1024x1, .i1⟩
  | .hbm, ⟨112, _⟩ => ⟨S1x256x1024x1, .f32⟩
  | .hbm, ⟨113, _⟩ => ⟨S1x256x1024x1, .f32⟩
  | .hbm, ⟨114, _⟩ => ⟨S1x256x1024x1024, .f32⟩
  | .hbm, ⟨115, _⟩ => ⟨S1x256x1024x1024, .f32⟩
  | .hbm, ⟨116, _⟩ => ⟨S1x1x1024x1, .i1⟩
  | .hbm, ⟨117, _⟩ => ⟨S_, .f32⟩
  | .hbm, ⟨118, _⟩ => ⟨S_, .f32⟩
  | .hbm, ⟨119, _⟩ => ⟨S1x256x1024x1024, .i1⟩
  | .hbm, ⟨120, _⟩ => ⟨S1x256x1024x1024, .f32⟩
  | .hbm, ⟨121, _⟩ => ⟨S1x256x1024x1024, .f32⟩
  | .hbm, ⟨122, _⟩ => ⟨S1x1024x256x128, .f32⟩
  | .hbm, ⟨123, _⟩ => ⟨S1x256x128x1024, .f32⟩
  | .hbm, ⟨124, _⟩ => ⟨S1x1024x256x128, .f32⟩
  | .hbm, ⟨125, _⟩ => ⟨S1x1024x32768, .f32⟩
  | .hbm, ⟨126, _⟩ => ⟨S32768x1024, .f32⟩
  | .hbm, ⟨127, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Steps.lean ====
/- The kernel body as a program of named steps.

   The printed body writes out each of its eight heads and of its sixty-two ring steps. Here a head
   is one program with the head as a parameter, a ring step is one program with the step as a
   parameter, and the loops run them in order. `body_eq` says the printed body is that program. -/
module

public import proofs.«01_k».proof.Proof.Gen.KernelIdeal.Skeleton
public import proofs.«01_k».proof.Proof.Gen.KernelIdeal.Points
public import proofs.«01_k».proof.Proof.Gen.KernelIdeal.Regions

@[expose] public section

noncomputable section

namespace Cert.KernelIdeal.RingSum

open Idealize.ShloMosaic Idealize.ShloMosaic.TcCoe
open Idealize.SL Idealize.SL.Sem
open Cert.KernelIdeal.Gen

variable {F : FTy → Type} [FloatOps F] [Named F]

/-- A program of one core of the mesh. -/
abbrev Pr (F : FTy → Type) (α : Type) := Prog (TpuEff nD τ sig (Elt F) Λ₀ .tc) α

/-! ## The buffers the body works on -/

/-- The device's copy of the input. -/
abbrev xM : Memref sig .tc .vmem S1024x1024 .bf16 := Memref.whole cc0_stg0_0
/-- The device's columns of the query weights. -/
abbrev wqM : Memref sig .tc .vmem S1024x1024 .bf16 := Memref.whole cc0_stg1_0
/-- The device's keys. -/
abbrev kM : Memref sig .tc .vmem S8x1024x128 .bf16 := Memref.whole cc0_stg2_0
/-- The device's values. -/
abbrev vM : Memref sig .tc .vmem S8x1024x128 .bf16 := Memref.whole cc0_stg3_0
/-- The device's rows of the output weights. -/
abbrev woM : Memref sig .tc .vmem S1024x1024 .bf16 := Memref.whole cc0_stg4_0
/-- The result, which the ring sums. -/
abbrev oM : Memref sig .tc .vmem S1024x1024 .f32 := Memref.whole cc0_stg5_0
/-- The thirty-one slots the partial sums land in. -/
abbrev sM : Memref sig .tc .vmem S31x32x1024 .f32 := Memref.whole cc0_scratch0
/-- The bias of the mask. -/
abbrev biasM : Memref sig .tc .vmem S1024x1024 .f32 := Memref.whole cc0_scratch1
/-- The queries. -/
abbrev qM : Memref sig .tc .vmem S1024x1024 .bf16 := Memref.whole cc0_scratch2
/-- The heads' outputs side by side. -/
abbrev ctxM : Memref sig .tc .vmem S1024x1024 .bf16 := Memref.whole cc0_scratch3

/-! ## Where the steps read and write -/

theorem inb_head (h : Fin 8) : ∀ a, (![0, 128 * h.val] : Fin 2 → Nat) a + S1024x128.size a ≤ S1024x1024.size a := by
  revert h; decide
theorem inb_kv (h : Fin 8) : ∀ a, (![h.val, 0, 0] : Fin 3 → Nat) a + S1x1024x128.size a ≤ S8x1024x128.size a := by
  revert h; decide
theorem inb_sem (s : Fin 31) : ∀ a, (![s.val] : Fin 1 → Nat) a + S1.size a ≤ S31.size a := by
  revert s; decide
theorem inb_slot (s : Fin 31) : ∀ a, (![s.val, 0, 0] : Fin 3 → Nat) a + S1x32x1024.size a ≤ S31x32x1024.size a := by
  revert s; decide

/-- The columns of one head. -/
abbrev headRect (h : Fin 8) : Rect S1024x1024 := Rect.unit (s := S1024x1024) ![0, 128 * h.val] S1024x128.size (inb_head h)
/-- One head's keys or values. -/
abbrev kvRect (h : Fin 8) : Rect S8x1024x128 := Rect.unit (s := S8x1024x128) ![h.val, 0, 0] S1x1024x128.size (inb_kv h)
/-- One slot. -/
abbrev slotRect (s : Fin 31) : Rect S31x32x1024 := Rect.unit (s := S31x32x1024) ![s.val, 0, 0] S1x32x1024.size (inb_slot s)
/-- The whole matrix. -/
abbrev wholeRect : Rect S1024x1024 := Rect.unit (s := S1024x1024) ![0, 0] S1024x1024.size inb_S1024x1024_S1024x1024_0_0
/-- Thirty-two rows from an offset on. -/
abbrev rowsRect (off : Fin 2 → Nat) (h : ∀ a, off a + S32x1024.size a ≤ S1024x1024.size a) : Rect S1024x1024 :=
  Rect.unit (s := S1024x1024) off S32x1024.size h

theorem packed_head (h : Fin 8) : (headRect h).PackedRows (EltTy.packing .bf16) := by
  revert h; decide

/-- Thirty-two rows of the result. -/
abbrev rowsM (off : Fin 2 → Nat) (h : ∀ a, off a + S32x1024.size a ≤ S1024x1024.size a) :
    Memref sig .tc .vmem S32x1024 .f32 := oM.slice (rowsRect off h) (fun _ => rfl)
/-- Slot `s` of the staging buffer. -/
abbrev slotM (s : Fin 31) : Memref sig .tc .vmem S32x1024 .f32 :=
  (sM.slice (slotRect s) (fun _ => rfl)).squeeze S32x1024 squeezes_S1x32x1024_S32x1024
/-- Semaphore `s` of an array of thirty-one. -/
abbrev semOf (a : DmaSems sig S31) (s : Fin 31) : DmaSem sig :=
  ((a.slice (Rect.unit (s := S31) ![s.val] S1.size (inb_sem s))).squeeze S_ squeezes_S1_S_).sem
/-- The barrier's semaphore. -/
abbrev barSem : Sem sig := (SemArray.scalar (sig.barrier 0 rfl) : Sems sig S_).sem
/-- The semaphore of the barrier at the end. -/
abbrev endSem : Sem sig := cc0_scoped0.sem

/-- The device on the left of the ring. -/
abbrev leftOf (c : Dev nD) : Dev nD := ⟨k0_dev1 c, k0_dev1_lt c⟩
/-- The device on the right of the ring. -/
abbrev rightOf (c : Dev nD) : Dev nD := ⟨k0_dev2 c, k0_dev2_lt c⟩

/-! ## The steps -/

/-- Signal both neighbours and wait for both. -/
def meet (sem : Sem sig) (l r : Dev nD) : Pr F PUnit := do
  semSignalWord l sem 1#32
  semSignalWord r sem 1#32
  semWaitWord sem 2#32

/-- The queries. -/
def qStep : Pr F PUnit := do
  let v13 ← Prog.lift (.load xM wholeRect.toLoadRect (View.loadsAt_vmem h_S1024x1024))
  let v15 ← Prog.lift (.load wqM wholeRect.toLoadRect (View.loadsAt_vmem h_S1024x1024))
  let _ ← Prog.lift (.load qM wholeRect.toLoadRect (View.loadsAt_vmem h_S1024x1024))
  Prog.lift (.store qM wholeRect (k0_pay1 v13 v15) Finset.univ (View.stores_vmem h_S1024x1024 ((Memref.isWhole_whole _).storeExact_slice rfl _ packedbf16_S1024x1024_S1024x1024_0_0) (fun _ => rfl)) (.inl rfl))

/-- The mask's bias. -/
def biasVal : FVec F S1024x1024 .f32 :=
  k0_pay9 (k0_pay7 (iota .tc S1024x1024 32 [0] iota_S1024x1024_d0_w32) 64#32 k0_pay2 k0_pay3 k0_pay4)
    (k0_pay8 (iota .tc S1024x1024 32 [0] iota_S1024x1024_d0_w32) 64#32 k0_pay2 k0_pay3 k0_pay4) 3#32

/-- One head. -/
def headStep (h : Fin 8) : Pr F PUnit := do
  let vq ← Prog.lift (.load qM (headRect h).toLoadRect (View.loadsAt_vmem h_S1024x128))
  let vk ← Prog.lift (.load kM (kvRect h).toLoadRect (View.loadsAt_vmem h_S1x1024x128))
  let vb ← Prog.lift (.load biasM wholeRect.toLoadRect (View.loadsAt_vmem h_S1024x1024))
  let vv ← Prog.lift (.load vM (kvRect h).toLoadRect (View.loadsAt_vmem h_S1x1024x128))
  let _ ← Prog.lift (.load ctxM (headRect h).toLoadRect (View.loadsAt_vmem h_S1024x128))
  Prog.lift (.store ctxM (headRect h) (k0_pay10 vq vk vb vv) Finset.univ (View.stores_vmem h_S1024x128 ((Memref.isWhole_whole _).storeExact_slice rfl _ (packed_head h)) (fun _ => rfl)) (.inl rfl))

/-- The device's own part of the result. -/
def outStep : Pr F PUnit := do
  let v288 ← Prog.lift (.load ctxM wholeRect.toLoadRect (View.loadsAt_vmem h_S1024x1024))
  let v289 ← Prog.lift (.load woM wholeRect.toLoadRect (View.loadsAt_vmem h_S1024x1024))
  let _ ← Prog.lift (.load oM wholeRect.toLoadRect (View.loadsAt_vmem h_S1024x1024))
  Prog.lift (.store oM wholeRect (k0_pay24 v288 v289) Finset.univ (View.stores_vmem_bits_univ h_S1024x1024 rfl) (.inl rfl))

/-- Thirty-two rows of the result plus the slot. -/
def addVal (a : Vec F S32x1024 .f32) (b : Vec F S1x32x1024 .f32) : FVec F S32x1024 .f32 := k0_pay25 a b

/-- A step of the summing ring: rows `off` go to slot `s` on the right, what the left sent into slot `s` is added to
    rows `off'`. -/
def rsStepAt (r : Dev nD) (s : Fin 31) (off : Fin 2 → Nat) (ho : ∀ a, off a + S32x1024.size a ≤ S1024x1024.size a)
    (off' : Fin 2 → Nat) (ho' : ∀ a, off' a + S32x1024.size a ≤ S1024x1024.size a) : Pr F PUnit := do
  Prog.lift (.enqueueDma (rowsM off ho) (.remote (Dev.tc r) (slotM s) (.dma (semOf cc0_scratch4 s)))
    (.dma (semOf cc0_scratch5 s)) (View.wordExact_bits rfl) ((View.wordExact_bits rfl).reshape _ _) ⟨⟨rfl, Or.inl rfl⟩, trivial⟩)
  Prog.lift (.waitDma2 (semOf cc0_scratch4 s) (slotM s) (rowsM off ho) ((View.wordExact_bits rfl).reshape _ _) (View.wordExact_bits rfl))
  Prog.lift (.waitDma2 (semOf cc0_scratch5 s) (rowsM off ho) (slotM s) (View.wordExact_bits rfl) ((View.wordExact_bits rfl).reshape _ _))
  let a ← Prog.lift (.load oM (rowsRect off' ho').toLoadRect (View.loadsAt_vmem h_S32x1024))
  let b ← Prog.lift (.load sM (slotRect s).toLoadRect (View.loadsAt_vmem h_S1x32x1024))
  let _ ← Prog.lift (.load oM (rowsRect off' ho').toLoadRect (View.loadsAt_vmem h_S32x1024))
  Prog.lift (.store oM (rowsRect off' ho') (addVal a b) Finset.univ (View.stores_vmem_bits_univ h_S32x1024 rfl) (.inl rfl))

/-- A step of the spreading ring: rows `off` go to the same rows on the right. -/
def agStepAt (r : Dev nD) (t : Fin 31) (off : Fin 2 → Nat) (ho : ∀ a, off a + S32x1024.size a ≤ S1024x1024.size a) :
    Pr F PUnit := do
  Prog.lift (.enqueueDma (rowsM off ho) (.remote (Dev.tc r) (rowsM off ho) (.dma (semOf cc0_scratch6 t)))
    (.dma (semOf cc0_scratch7 t)) (View.wordExact_bits rfl) (View.wordExact_bits rfl) ⟨⟨rfl, Or.inl rfl⟩, trivial⟩)
  Prog.lift (.waitDma2 (semOf cc0_scratch6 t) (rowsM off ho) (rowsM off ho) (View.wordExact_bits rfl) (View.wordExact_bits rfl))
  Prog.lift (.waitDma2 (semOf cc0_scratch7 t) (rowsM off ho) (rowsM off ho) (View.wordExact_bits rfl) (View.wordExact_bits rfl))

/-- Step `s` of the summing ring at device `c`. -/
def rsStep (c : Dev nD) (s : Fin 31) : Pr F PUnit :=
  rsStepAt (rightOf c) s (k0_off1 c (BitVec.ofNat 32 s.val)) (k0_off1_inb c s) (k0_off2 c (BitVec.ofNat 32 s.val)) (k0_off2_inb c s)

/-- Step `t` of the spreading ring at device `c`. -/
def agStep (c : Dev nD) (t : Fin 31) : Pr F PUnit :=
  agStepAt (rightOf c) t (k0_off3 c (BitVec.ofNat 32 t.val)) (k0_off3_inb c t)

/-- The last `n` of `N` steps in order, then `k`. -/
def runLast {N : Nat} (f : Fin N → Pr F PUnit) (k : Pr F PUnit) : (n : Nat) → n ≤ N → Pr F PUnit
  | 0, _ => k
  | n + 1, h => f ⟨N - (n + 1), Nat.sub_lt (Nat.lt_of_lt_of_le (Nat.succ_pos n) h) (Nat.succ_pos n)⟩ >>= fun _ =>
      runLast f k n (Nat.le_of_succ_le h)

/-- What a device runs once it knows which it is. -/
def rest (c : Dev nD) : Pr F PUnit := do
  meet barSem (leftOf c) (rightOf c)
  qStep
  let _ ← Prog.lift (.load biasM wholeRect.toLoadRect (View.loadsAt_vmem h_S1024x1024))
  Prog.lift (.store biasM wholeRect biasVal Finset.univ (View.stores_vmem_bits_univ h_S1024x1024 rfl) (.inl rfl))
  runLast (N := 8) headStep (do
    outStep
    runLast (N := 31) (rsStep c) (
      runLast (N := 31) (agStep c) (meet endSem (leftOf c) (rightOf c)) 31 (Nat.le_refl _)) 31 (Nat.le_refl _)) 8 (Nat.le_refl _)

/-- The whole body. -/
def prog : Pr F PUnit := Prog.op .deviceId fun c => rest c

set_option maxRecDepth 100000 in
/-- The printed body is the program of named steps. -/
theorem body_eq : (bodyAt0 (F := F) t0_0) = prog := by
  chain_rfl

end Cert.KernelIdeal.RingSum
-- ==== Proof.Mesh.lean ====
/- The ring of thirty-two devices: neighbours, the chunk of rows a device works on at each step, and the
   steps of the body restated with them. -/
module

public import proofs.«01_k».proof.Proof.Steps

@[expose] public section

noncomputable section

namespace Cert.KernelIdeal.RingSum

open Idealize.ShloMosaic Idealize.ShloMosaic.TcCoe
open Idealize.SL Idealize.SL.Sem
open Cert.KernelIdeal.Gen

variable {F : FTy → Type} [FloatOps F] [Named F]

/-! ## Neighbours -/

/-- The next device on the ring. -/
def nxt (c : Dev nD) : Dev nD := ⟨(c.val + 1) % 32, Nat.mod_lt _ (by decide)⟩
/-- The device before on the ring. -/
def prv (c : Dev nD) : Dev nD := ⟨(c.val + 31) % 32, Nat.mod_lt _ (by decide)⟩

theorem dev_lt (c : Dev nD) : c.val < 32 := c.isLt

theorem prv_nxt (c : Dev nD) : prv (nxt c) = c := Fin.ext (by have := dev_lt c; simp only [prv, nxt]; omega)
theorem nxt_prv (c : Dev nD) : nxt (prv c) = c := Fin.ext (by have := dev_lt c; simp only [prv, nxt]; omega)
theorem nxt_ne_prv (c : Dev nD) : nxt c ≠ prv c := fun h => by
  have h' := congrArg Fin.val h; have := dev_lt c; simp only [prv, nxt] at h'; omega

/-- The ring as a permutation of the devices. -/
def ring : Dev nD ≃ Dev nD := ⟨nxt, prv, prv_nxt, nxt_prv⟩

theorem rightOf_eq (c : Dev nD) : rightOf c = nxt c := Fin.ext (k0_dev2_eq c)
theorem leftOf_eq (c : Dev nD) : leftOf c = prv c := Fin.ext (k0_dev1_eq c)

/-! ## Chunks -/

/-- The chunk of rows that is `k` places behind device `c`. -/
def rb (c : Dev nD) (k : ℕ) : Fin 32 := ⟨(c.val + 64 - k) % 32, Nat.mod_lt _ (by decide)⟩

theorem rb_nxt (c : Dev nD) {k : ℕ} (hk : k < 64) : rb (nxt c) (k + 1) = rb c k :=
  Fin.ext (by have := dev_lt c; simp only [rb, nxt]; omega)
theorem rb_prv (c : Dev nD) {k : ℕ} (hk : k < 64) : rb (prv c) k = rb c (k + 1) := by
  rw [← rb_nxt (prv c) hk, nxt_prv]

theorem inb_chunk (j : Fin 32) : ∀ a, (![32 * j.val, 0] : Fin 2 → Nat) a + S32x1024.size a ≤ S1024x1024.size a := by
  revert j; decide

/-- The rows of chunk `j`. -/
abbrev chunkRect (j : Fin 32) : Rect S1024x1024 := rowsRect ![32 * j.val, 0] (inb_chunk j)
/-- Chunk `j` of the result. -/
abbrev chunkM (j : Fin 32) : Memref sig .tc .vmem S32x1024 .f32 := rowsM ![32 * j.val, 0] (inb_chunk j)

/-- Step `s` of the summing ring: the chunk `s` behind goes right, the slot is added to the chunk `s + 1` behind. -/
def rsNamed (c : Dev nD) (s : Fin 31) : Pr F PUnit :=
  rsStepAt (nxt c) s ![32 * (rb c s.val).val, 0] (inb_chunk _) ![32 * (rb c (s.val + 1)).val, 0] (inb_chunk _)

/-- Step `t` of the spreading ring: the chunk `31 + t` behind goes right. -/
def agNamed (c : Dev nD) (t : Fin 31) : Pr F PUnit :=
  agStepAt (nxt c) t ![32 * (rb c (31 + t.val)).val, 0] (inb_chunk _)

theorem rsStepAt_congr {r r' : Dev nD} (hr : r = r') (s : Fin 31) {o o' p p' : Fin 2 → Nat} (ho : o = o') (hp : p = p')
    (h1 : ∀ a, o a + S32x1024.size a ≤ S1024x1024.size a) (h1' : ∀ a, o' a + S32x1024.size a ≤ S1024x1024.size a)
    (h2 : ∀ a, p a + S32x1024.size a ≤ S1024x1024.size a) (h2' : ∀ a, p' a + S32x1024.size a ≤ S1024x1024.size a) :
    rsStepAt (F := F) r s o h1 p h2 = rsStepAt r' s o' h1' p' h2' := by
  subst hr ho hp; rfl

theorem agStepAt_congr {r r' : Dev nD} (hr : r = r') (t : Fin 31) {o o' : Fin 2 → Nat} (ho : o = o')
    (h1 : ∀ a, o a + S32x1024.size a ≤ S1024x1024.size a) (h1' : ∀ a, o' a + S32x1024.size a ≤ S1024x1024.size a) :
    agStepAt (F := F) r t o h1 = agStepAt r' t o' h1' := by
  subst hr ho; rfl

theorem rsStep_eq (c : Dev nD) (s : Fin 31) : rsStep (F := F) c s = rsNamed c s :=
  rsStepAt_congr (rightOf_eq c) s
    ((k0_off1_eq c s).trans (by
      have hm : (c.val + 32 - s.val) % 32 = (rb c s.val).val := by
        have := dev_lt c; have := s.isLt; simp only [rb]; omega
      rw [hm]))
    ((k0_off2_eq c s).trans (by
      have hm : (c.val + 31 - s.val) % 32 = (rb c (s.val + 1)).val := by
        have := dev_lt c; have := s.isLt; simp only [rb]; omega
      rw [hm])) _ _ _ _

theorem agStep_eq (c : Dev nD) (t : Fin 31) : agStep (F := F) c t = agNamed c t :=
  agStepAt_congr (rightOf_eq c) t
    ((k0_off3_eq c t).trans (by
      have hm : (c.val + 33 - t.val) % 32 = (rb c (31 + t.val)).val := by
        have := dev_lt c; have := t.isLt; simp only [rb]; omega
      rw [hm])) _ _

/-- What a device runs once it knows which it is, with the neighbours and the chunks by name. -/
theorem rest_eq (c : Dev nD) : rest (F := F) c = (do
    meet barSem (prv c) (nxt c)
    qStep
    let _ ← Prog.lift (.load biasM wholeRect.toLoadRect (View.loadsAt_vmem h_S1024x1024))
    Prog.lift (.store biasM wholeRect biasVal Finset.univ (View.stores_vmem_bits_univ h_S1024x1024 rfl) (.inl rfl))
    runLast (N := 8) headStep (do
      outStep
      runLast (N := 31) (rsNamed c) (
        runLast (N := 31) (agNamed c) (meet endSem (prv c) (nxt c)) 31 (Nat.le_refl _)) 31 (Nat.le_refl _)) 8 (Nat.le_refl _)) := by
  have e1 : rsStep (F := F) c = rsNamed c := funext (rsStep_eq c)
  have e2 : agStep (F := F) c = agNamed c := funext (agStep_eq c)
  unfold rest
  rw [e1, e2, rightOf_eq, leftOf_eq]

end Cert.KernelIdeal.RingSum
-- ==== Proof.Cells.lean ====
/- The protocol: which semaphore cells there are, what each pays and when, and what a device owes.

   Every device has two barrier cells (one before the ring, one after) and, for each of the thirty-one steps of either
   ring, a cell its own copies signal and a cell its left neighbour's copies signal. Each cell is used for one round.

   Contents travel with the payments. The copy of step `s` of the summing ring hands the next device its slot `s` filled
   with the partial sum, and with it the sender's own chunk, which the sender no longer needs: so when a chunk's sum is
   finished, its last holder also holds that chunk of every other device's result buffer, and the spreading ring pays
   them out again one by one. -/
module

public import proofs.«01_k».proof.Proof.Mesh
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Tactic

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## Resources -/

/-- The pipeline's rounds and the ring's. -/
abbrev UU : Type := URounds (GSem nD τ sig) Unit × URounds (GSem nD τ sig) Bool

local notation "𝕄" => MT nD τ sig Unit (Elt F) ℕ UU ℕ

/-- The pipeline's half. -/
abbrev EP : Emb (URounds (GSem nD τ sig) Unit) (MT nD τ sig Unit (Elt F) ℕ UU ℕ) := embL
/-- The ring's half. -/
abbrev ER : Emb (URounds (GSem nD τ sig) Bool) (MT nD τ sig Unit (Elt F) ℕ UU ℕ) := embR

/-! ## Cells -/

/-- The kinds of cells a device has: the barrier before the ring, the barrier after it, and four for each step: the
    summing ring's send and receive, the spreading ring's send and receive. -/
inductive Kind
  | bar
  | fin
  | dma (a : Fin 4) (s : Fin 31)
  deriving DecidableEq

/-- The kinds, listed. -/
def kinds : Kind ≃ Bool ⊕ (Fin 4 × Fin 31) where
  toFun | .bar => .inl true | .fin => .inl false | .dma a s => .inr (a, s)
  invFun | .inl true => .bar | .inl false => .fin | .inr (a, s) => .dma a s
  left_inv k := by cases k <;> rfl
  right_inv x := by rcases x with (_ | _) | _ <;> rfl

instance : Fintype Kind := Fintype.ofEquiv _ kinds.symm

/-- The copy semaphore of family `a` and step `s`. -/
def dsem (a : Fin 4) (s : Fin 31) : DmaSem sig := ⟨6 + 31 * a.val + s.val, by
  have := a.isLt; have := s.isLt; show _ < 130; omega⟩

/-- The semaphore of a kind of cell. -/
def semLoc : Kind → SemLoc sig
  | .bar => .reg barSem
  | .fin => .reg endSem
  | .dma a s => .dma (dsem a s)

/-- The kind of cell a semaphore is. -/
def kindOf : SemLoc sig → Option Kind
  | .reg x => if x = barSem then some .bar else if x = endSem then some .fin else none
  | .dma i => if h : 6 ≤ i.val then some (.dma ⟨(i.val - 6) / 31, by
      have h130 : i.val < 130 := i.isLt
      omega⟩ ⟨(i.val - 6) % 31, Nat.mod_lt _ (by decide)⟩) else none

theorem kindOf_semLoc (k : Kind) : kindOf (semLoc k) = some k := by
  cases k with
  | bar => rfl
  | fin => rfl
  | dma a s =>
    have ha := a.isLt; have hs := s.isLt
    have hv : (dsem a s).val = 6 + 31 * a.val + s.val := rfl
    simp only [semLoc, kindOf]
    rw [dif_pos (by rw [hv]; omega)]
    congr 2
    · exact Fin.ext (by simp only [hv]; omega)
    · exact Fin.ext (by simp only [hv]; omega)

theorem semLoc_inj : Function.Injective semLoc := fun k k' h => by
  have := congrArg kindOf h; rw [kindOf_semLoc, kindOf_semLoc] at this; exact Option.some.inj this

/-- Device `c`'s cell of a kind. -/
abbrev cell (c : Dev nD) (k : Kind) : GSem nD τ sig := ((c : Thread nD τ), semLoc k)

theorem cell_inj {c c' : Dev nD} {k k' : Kind} (h : cell c k = cell c' k') : c = c' ∧ k = k' :=
  ⟨congrArg (fun g : GSem nD τ sig => g.1.1) h, semLoc_inj (congrArg Prod.snd h)⟩

theorem sem4 (s : Fin 31) : semOf cc0_scratch4 s = dsem 0 s := by revert s; decide
theorem sem5 (s : Fin 31) : semOf cc0_scratch5 s = dsem 1 s := by revert s; decide
theorem sem6 (s : Fin 31) : semOf cc0_scratch6 s = dsem 2 s := by revert s; decide
theorem sem7 (s : Fin 31) : semOf cc0_scratch7 s = dsem 3 s := by revert s; decide

/-! ## Contents -/

/-- Chunk `j` of a matrix. -/
def chunkOf (X : Vec F S1024x1024 .f32) (j : Fin 32) : Vec F S32x1024 .f32 := fun y => X ((chunkRect j).emb y)

/-- Device `c`'s chunk `j` of the result, at `X`. -/
def chunkAt (c : Dev nD) (j : Fin 32) (X : Vec F S32x1024 .f32) : sProp 𝕄 := owns (c : Thread nD τ) (chunkM j) fullShare X
/-- Device `c`'s slot `s`, at `X`. -/
def slotAt (c : Dev nD) (s : Fin 31) (X : Vec F S32x1024 .f32) : sProp 𝕄 := owns (c : Thread nD τ) (slotM s) fullShare X
/-- Device `c`'s chunk `j`, at any contents. -/
def chunkAny (c : Dev nD) (j : Fin 32) : sProp 𝕄 := iprop(∃ X, chunkAt c j X)
/-- Device `c`'s slot `s`, at any contents. -/
def slotAny (c : Dev nD) (s : Fin 31) : sProp 𝕄 := iprop(∃ X, slotAt c s X)

/-- Chunk `j` of the `n` devices before `c`. -/
def olds (j : Fin 32) : Dev nD → ℕ → sProp 𝕄
  | _, 0 => iprop(emp)
  | c, n + 1 => iprop(chunkAny (prv c) j ∗ olds j (prv c) n)
/-- Chunk `j` of the `n` devices after `c`. -/
def news (j : Fin 32) : Dev nD → ℕ → sProp 𝕄
  | _, 0 => iprop(emp)
  | c, n + 1 => iprop(chunkAny (nxt c) j ∗ news j (nxt c) n)

instance chunkAt_storable (c : Dev nD) (j : Fin 32) (X : Vec F S32x1024 .f32) :
    BI.Storable (upEmb : UEmb _ 𝕄) (chunkAt c j X) := by unfold chunkAt; infer_instance
instance slotAt_storable (c : Dev nD) (s : Fin 31) (X : Vec F S32x1024 .f32) :
    BI.Storable (upEmb : UEmb _ 𝕄) (slotAt c s X) := by unfold slotAt; infer_instance
instance chunkAny_storable (c : Dev nD) (j : Fin 32) : BI.Storable (upEmb : UEmb _ 𝕄) (chunkAny (F := F) c j) := by
  unfold chunkAny; infer_instance
instance slotAny_storable (c : Dev nD) (s : Fin 31) : BI.Storable (upEmb : UEmb _ 𝕄) (slotAny (F := F) c s) := by
  unfold slotAny; infer_instance
instance olds_storable (j : Fin 32) (c : Dev nD) (n : ℕ) : BI.Storable (upEmb : UEmb _ 𝕄) (olds (F := F) j c n) := by
  induction n generalizing c with
  | zero => unfold olds; infer_instance
  | succ n ih => unfold olds; have := ih (prv c); infer_instance
instance news_storable (j : Fin 32) (c : Dev nD) (n : ℕ) : BI.Storable (upEmb : UEmb _ 𝕄) (news (F := F) j c n) := by
  induction n generalizing c with
  | zero => unfold news; infer_instance
  | succ n ih => unfold news; have := ih (nxt c); infer_instance

/-- The devices before, met from the one furthest back: chunk `j` of the `n` devices before `c` and of the `m` devices
    after the device before `c` are chunk `j` of the `m + n` devices after the furthest. -/
theorem olds_news (j : Fin 32) (n : ℕ) : ∀ (c : Dev nD) (m : ℕ),
    iprop(olds (F := F) j c n ∗ news j (prv c) m) ⊢ news j (prv (prv^[n] c)) (m + n) := by
  induction n with
  | zero => intro c m; unfold olds; iintro ⟨-, H⟩; iexact H
  | succ n ih =>
    intro c m
    have h := ih (prv c) (m + 1)
    rw [Function.iterate_succ_apply, show m + (n + 1) = (m + 1) + n by omega]
    refine BIBase.Entails.trans ?_ h
    rw [olds.eq_2, news.eq_2]
    have e : nxt (prv (prv c)) = prv c := nxt_prv _
    rw [e]
    iintro ⟨⟨H1, H2⟩, H3⟩
    isplitl [H2]; · iexact H2
    isplitl [H1]; · iexact H1
    iexact H3

theorem prv_iterate (n : ℕ) (c : Dev nD) : (prv^[n] c).val = (c.val + 31 * n) % 32 := by
  induction n generalizing c with
  | zero => have := dev_lt c; simp only [Function.iterate_zero, id]; omega
  | succ n ih => rw [Function.iterate_succ_apply, ih]; simp only [prv]; omega

/-- Chunk `j` of all the other devices, from either end. -/
theorem olds_to_news (j : Fin 32) (c : Dev nD) : olds (F := F) j c 31 ⊢ news j c 31 := by
  have h := olds_news (F := F) j 31 c 0
  have e : prv (prv^[31] c) = c := Fin.ext (by
    have := dev_lt c; have h' := prv_iterate 31 c; simp only [prv]; omega)
  rw [e] at h
  refine BIBase.Entails.trans ?_ h
  rw [news.eq_1]
  iintro H; isplitl [H]; · iexact H
  iempintro

section Contents

variable (O : Dev nD → Vec F S1024x1024 .f32)

/-- What device `c` holds in the chunk `s` behind it after `s` steps of the summing ring: its own part plus what the
    device before held after `s - 1`. -/
def acc : ℕ → Dev nD → Vec F S32x1024 .f32
  | 0, c => chunkOf (O c) (rb c 0)
  | s + 1, c => addf (chunkOf (O c) (rb c (s + 1))) (acc s (prv c))

/-- The finished sum of chunk `j`: what the device before the `j`th holds after the last step. -/
def total (j : Fin 32) : Vec F S32x1024 .f32 := acc O 31 ⟨(j.val + 31) % 32, Nat.mod_lt _ (by decide)⟩

theorem acc_last (c : Dev nD) : acc O 31 c = total O (rb c 31) := by
  unfold total
  congr 1
  exact Fin.ext (by have := dev_lt c; simp only [rb]; omega)

/-- The whole result, from its chunks. -/
def result : Vec F S1024x1024 .f32 := fun x => total O ⟨(x 0).val / 32, by
  have h : (x 0).val < 1024 := (x 0).isLt
  omega⟩ (fun a => match a with
    | 0 => ⟨(x 0).val % 32, Nat.mod_lt _ (by decide)⟩
    | 1 => x 1)

/-! ## Payments -/

/-- What the barrier's cell of `c` is paid: by its right neighbour, that device's slots and word that the cells the ring
    signals there are open; by its left neighbour, word that the closing barrier's cell there is open. -/
def barPay (c : Dev nD) (d : Bool) : sProp 𝕄 :=
  if d then iprop((bigSep Finset.univ fun s : Fin 31 => slotAny (nxt c) s)
      ∗ (bigSep Finset.univ fun s : Fin 31 => reached ER (cell (nxt c) (.dma 1 s)) 0)
      ∗ (bigSep Finset.univ fun s : Fin 31 => reached ER (cell (nxt c) (.dma 3 s)) 0)
      ∗ reached ER (cell (nxt c) .fin) 0)
  else reached ER (cell (prv c) .fin) 0

/-- What the receive cell of step `s` of the summing ring is paid. -/
def rsPay (c : Dev nD) (s : Fin 31) : sProp 𝕄 :=
  iprop(slotAt c s (acc O s.val (prv c)) ∗ olds (rb c (s.val + 1)) c (s.val + 1))
/-- What the send cell of step `t` of the spreading ring is paid: the chunk back. -/
def agBack (c : Dev nD) (t : Fin 31) : sProp 𝕄 := chunkAt c (rb c (31 + t.val)) (total O (rb c (31 + t.val)))
/-- What the receive cell of step `t` of the spreading ring is paid. -/
def agPay (c : Dev nD) (t : Fin 31) : sProp 𝕄 :=
  iprop(chunkAt c (rb c (32 + t.val)) (total O (rb c (32 + t.val))) ∗ news (rb c (32 + t.val)) c (30 - t.val))

/-- The payment of a copy cell. -/
def dmaPay (c : Dev nD) (a : Fin 4) (s : Fin 31) : sProp 𝕄 :=
  match a with
  | 0 => iprop(emp)
  | 1 => rsPay O c s
  | 2 => agBack O c s
  | 3 => agPay O c s

/-- The payment of a cell. -/
def pay (c : Dev nD) (k : Option Kind) (d : Bool) : sProp 𝕄 :=
  match k with
  | some .bar => barPay c d
  | some (.dma a s) => dmaPay O c a s
  | _ => iprop(emp)

instance barPay_storable (c : Dev nD) (d : Bool) : BI.Storable (upEmb : UEmb _ 𝕄) (barPay (F := F) c d) := by
  unfold barPay; split <;> infer_instance
instance dmaPay_storable (c : Dev nD) (a : Fin 4) (s : Fin 31) : BI.Storable (upEmb : UEmb _ 𝕄) (dmaPay O c a s) := by
  unfold dmaPay rsPay agBack agPay; split <;> infer_instance
instance pay_storable (c : Dev nD) (k : Option Kind) (d : Bool) : BI.Storable (upEmb : UEmb _ 𝕄) (pay O c k d) := by
  unfold pay; split <;> infer_instance

/-- The credit of a copy of one chunk. -/
@[irreducible] def N : ℕ := (chunkM 0).view.dmaCredit
theorem N_pos : 0 < N := by unfold N; exact View.dmaCredit_pos _ (by decide)
theorem N_slot (s : Fin 31) : (slotM s).view.dmaCredit = N := by unfold N; rfl
theorem N_chunk (j : Fin 32) : (chunkM j).view.dmaCredit = N := by unfold N; rfl

theorem amount_slot (s : Fin 31) (x : DmaSem sig) : (slotM s).view.amount (.dma x) = N := N_slot s
theorem amount_chunk (j : Fin 32) (x : DmaSem sig) : (chunkM j).view.amount (.dma x) = N := N_chunk j

/-- What a payment of a kind of cell amounts to. -/
def amt : Option Kind → ℕ
  | some (.dma _ _) => N
  | _ => 1

theorem amt_pos (k : Option Kind) : 0 < amt k := by
  unfold amt; split
  · exact N_pos
  · exact Nat.one_pos

/-- Who pays a kind of cell: both neighbours a barrier's, one copy the others. -/
def payers : Option Kind → Finset Bool
  | some (.dma _ _) => {false}
  | some _ => {true, false}
  | none => ∅

/-- The schedule: every cell once. -/
def sched : Rounds.Schedule (GSem nD τ sig) Bool 𝕄 where
  duties g r := if r = 0 ∧ g.1.2 = .tc then payers (kindOf g.2) else ∅
  unitless _ := False
  amount g _ _ := amt (kindOf g.2)
  payload g _ d := pay O g.1.1 (kindOf g.2) d
  amount_pos g _ _ _ := amt_pos _

instance sched_storable (g : GSem nD τ sig) (r : ℕ) (d : Bool) :
    BI.Storable (upEmb : UEmb _ 𝕄) ((sched O).payload g r d) := by
  show BI.Storable upEmb (pay O g.1.1 (kindOf g.2) d); infer_instance

variable (c : Dev nD)

theorem duties_cell (k : Kind) : (sched O).duties (cell c k) 0 = payers (some k) := by
  dsimp only [sched]; rw [kindOf_semLoc, if_pos ⟨rfl, rfl⟩]
theorem duties_later (g : GSem nD τ sig) : ∀ r, 1 ≤ r → (sched O).duties g r = ∅ :=
  fun r hr => by dsimp only [sched]; rw [if_neg (fun h => by omega)]
theorem amount_cell (k : Kind) (d : Bool) : (sched O).amount (cell c k) 0 d = amt (some k) := by
  dsimp only [sched]; rw [kindOf_semLoc]
theorem payload_cell (k : Kind) (d : Bool) : (sched O).payload (cell c k) 0 d = pay O c (some k) d := by
  dsimp only [sched]; rw [kindOf_semLoc]

theorem expect_dma (a : Fin 4) (s : Fin 31) : (sched O).expect (cell c (.dma a s)) 0 = N := by
  unfold Schedule.expect Schedule.amountOf
  rw [duties_cell]
  show ∑ d ∈ ({false} : Finset Bool), _ = _
  rw [Finset.sum_singleton, amount_cell]; rfl
theorem expect_bar (k : Kind) (hk : payers (some k) = {true, false}) (ha : amt (some k) = 1) :
    (sched O).expect (cell c k) 0 = 2 := by
  unfold Schedule.expect Schedule.amountOf
  rw [duties_cell, hk, Finset.sum_pair (by decide), amount_cell, amount_cell, ha]

theorem got_dma (a : Fin 4) (s : Fin 31) :
    bigSep ((sched O).duties (cell c (.dma a s)) 0 \ ∅) (fun u => (sched O).payload (cell c (.dma a s)) 0 u) = dmaPay O c a s := by
  rw [Finset.sdiff_empty, duties_cell]
  show bigSep ({false} : Finset Bool) _ = _
  rw [bigSep_singleton, payload_cell]; rfl
theorem got_bar :
    bigSep ((sched O).duties (cell c .bar) 0 \ ∅) (fun u => (sched O).payload (cell c .bar) 0 u)
      = iprop(barPay c true ∗ barPay c false) := by
  rw [Finset.sdiff_empty, duties_cell]
  show bigSep ({true, false} : Finset Bool) _ = _
  rw [bigSep_insert (by decide), bigSep_singleton, payload_cell, payload_cell]; rfl

end Contents

/-! ## What a device owes, and the levels of the cells -/

/-- One unit to either neighbour at the closing barrier, -/
def dueFin (c : Dev nD) : CellTallies nD τ sig Unit := tallyAt (cell (nxt c) .fin) () 1 + tallyAt (cell (prv c) .fin) () 1
/-- with `n` steps of the spreading ring left, -/
def dueAg (c : Dev nD) : ℕ → CellTallies nD τ sig Unit
  | 0 => dueFin c
  | n + 1 => dueAg c n + tallyAt (cell (nxt c) (.dma 3 ⟨30 - n, by omega⟩)) () N
/-- with `n` steps of the summing ring left, -/
def dueRs (c : Dev nD) : ℕ → CellTallies nD τ sig Unit
  | 0 => dueAg c 31
  | n + 1 => dueRs c n + tallyAt (cell (nxt c) (.dma 1 ⟨30 - n, by omega⟩)) () N
/-- and at the start. -/
def dueAll (c : Dev nD) : CellTallies nD τ sig Unit :=
  dueRs c 31 + tallyAt (cell (nxt c) .bar) () 1 + tallyAt (cell (prv c) .bar) () 1

/-- The tensor core's cells have one level each. -/
def L (g : GSem nD τ sig) : Finset Unit := if g.1.2 = .tc then {()} else ∅
/-- The level of a kind of cell: a device waits in this order. -/
def kindLv : Option Kind → ℕ
  | some .bar => 1
  | some .fin => 64
  | some (.dma 1 s) => 2 + s.val
  | some (.dma 3 t) => 33 + t.val
  | _ => 0
/-- The level of a cell. -/
def lv (g : GSem nD τ sig) (_ : Unit) : ℕ := kindLv (kindOf g.2)

theorem L_of_ne (g : GSem nD τ sig) (h : g.1.2 ≠ .tc) : L g = ∅ := if_neg h
theorem L_cell (c : Dev nD) (sm : SemLoc sig) : L ((c : Thread nD τ), sm) = {()} := if_pos rfl
theorem lv_cell (c : Dev nD) (k : Kind) (u : Unit) : lv (cell c k) u = kindLv (some k) := by
  unfold lv; rw [kindOf_semLoc]

/-- Everything owed is above a level. -/
def Over (b : ℕ) (O : CellTallies nD τ sig Unit) : Prop := ∀ g u, 0 < O g u → u ∈ L g ∧ b < lv g u

theorem Over.cell {b : ℕ} {c : Dev nD} {k : Kind} {n : ℕ} (h : b < kindLv (some k)) : Over b (tallyAt (cell c k) () n) :=
  fun g u hg => by
    rw [tallyAt_apply] at hg
    by_cases e : g = RingSum.cell c k ∧ u = ()
    · rw [e.1]; exact ⟨by rw [L_cell]; exact Finset.mem_singleton_self _, by rw [lv_cell]; exact h⟩
    · rw [if_neg e] at hg; exact absurd hg (Nat.lt_irrefl 0)
theorem Over.add {b : ℕ} {O O' : CellTallies nD τ sig Unit} (h : Over b O) (h' : Over b O') : Over b (O + O') :=
  fun g u hg => by
    rw [Pi.add_apply, Finsupp.add_apply] at hg
    rcases Nat.add_pos_iff_pos_or_pos.mp hg with hg | hg
    · exact h g u hg
    · exact h' g u hg

theorem over_fin (c : Dev nD) {b : ℕ} (h : b < 64) : Over b (dueFin c) := (Over.cell h).add (Over.cell h)
theorem over_ag (c : Dev nD) {b : ℕ} : ∀ n, n ≤ 31 → b + n < 64 → Over b (dueAg c n)
  | 0, _, h => over_fin c h
  | n + 1, hn, h => (over_ag c n (by omega) (by omega)).add (Over.cell (by simp only [kindLv]; omega))
theorem over_rs (c : Dev nD) {b : ℕ} : ∀ n, n ≤ 31 → b + n < 33 → Over b (dueRs c n)
  | 0, _, h => over_ag c 31 (Nat.le_refl _) (by omega)
  | n + 1, hn, h => (over_rs c n (by omega) (by omega)).add (Over.cell (by simp only [kindLv]; omega))
theorem over_all (c : Dev nD) : Over 0 (dueAll c) :=
  ((over_rs c 31 (Nat.le_refl _) (by decide)).add (Over.cell (by decide))).add (Over.cell (by decide))

/-- A device may wait at a cell when everything it owes is above it. -/
theorem mayWait (c : Dev nD) (k : Kind) {O : CellTallies nD τ sig Unit} (h : Over (kindLv (some k)) O) :
    (levAts L lv : sProp 𝕄) ⊢ MayWait (c : Thread nD τ) (semLoc k) () O :=
  MayOwe.of_cut (L := L) (lev := lv) (kindLv (some k))
    (fun p hp => by rw [Finset.mem_singleton.mp hp, L_cell]; exact Finset.mem_singleton_self _)
    (fun g u hg => (h g u hg).1)
    (fun p hp => by rw [Finset.mem_singleton.mp hp]; exact Nat.le_of_eq (lv_cell c k ()))
    (fun g u hg => (h g u hg).2)

end Cert.KernelIdeal.RingSum
-- ==== Proof.Know.lean ====
/- What every device knows, and waiting for a copy. -/
module

public import proofs.«01_k».proof.Proof.Cells

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

abbrev 𝒱₀ : Variants := Variants.none

/-! ## What every device knows -/

/-- All the cells, every device's. -/
@[irreducible] def allCells : Finset (GSem nD τ sig) := Finset.univ.image fun p : Dev nD × Kind => cell p.1 p.2

theorem cell_mem (c : Dev nD) (k : Kind) : cell c k ∈ allCells := by
  unfold allCells; exact Finset.mem_image.mpr ⟨(c, k), Finset.mem_univ _, rfl⟩

/-- The cells' invariants, at the names `K`, and the levels. -/
def known (O : Dev nD → Vec F S1024x1024 .f32) (K : GSem nD τ sig → ℕ) : sProp 𝕄 :=
  iprop((bigSep allCells fun g => cellInv ER (sched O) (K g) g) ∗ levAts L lv)

instance known_persistent (O : Dev nD → Vec F S1024x1024 .f32) (K : GSem nD τ sig → ℕ) : BI.Persistent (known O K) := by
  unfold known; infer_instance

variable {O : Dev nD → Vec F S1024x1024 .f32} {K : GSem nD τ sig → ℕ}

theorem known_cell (c : Dev nD) (k : Kind) : known O K ⊢ cellInv ER (sched O) (K (cell c k)) (cell c k) := by
  unfold known
  iintro ⟨H, -⟩
  iapply (show (bigSep allCells fun g => cellInv ER (sched O) (K g) g : sProp 𝕄) ⊢ cellInv ER (sched O) (K (cell c k)) (cell c k) from
    bigSep_elim (cell_mem c k)); iexact H
theorem known_wait (c : Dev nD) (k : Kind) {T : CellTallies nD τ sig Unit} (h : Over (kindLv (some k)) T) :
    known O K ⊢ MayWait (c : Thread nD τ) (semLoc k) () T := by
  unfold known
  iintro ⟨-, H⟩
  iapply (mayWait c k h); iexact H

/-- A device owes `T`, whatever it has waited for. -/
def owing (c : Dev nD) (T : CellTallies nD τ sig Unit) : sProp 𝕄 := iprop(∃ W, owes (c : Thread nD τ) T W)

/-- Closing a cell that has been waited for: its counter is back at zero. -/
theorem close (κ : ℕ) (g : GSem nD τ sig) :
    iprop(cellInv ER (sched O) κ g ∗ atPos ER g (0 + 1) ∅ 0) ⊢ (|={Set.univ}=> semVal g 0 : sProp 𝕄) :=
  Rounds.cell_close ER (sched O) (Set.mem_univ κ) id (duties_later O g)

/-- Waiting for a copy cell, and closing it: what it was paid, and its counter at zero. -/
theorem wait_dma (c : Dev nD) (a : Fin 4) (s : Fin 31) {T : CellTallies nD τ sig Unit}
    (hT : Over (kindLv (some (.dma a s))) T) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (semLoc (.dma a s)) N Kt) {k : PUnit → Pr F PUnit} {Q : PUnit → sProp 𝕄} :
    iprop(known O K ∗ atPos ER (cell c (.dma a s)) 0 ∅ 0 ∗ cred (tallyAt (cell c (.dma a s)) () N) ∗ owing c T
        ∗ ((owing c T ∗ semVal (cell c (.dma a s)) 0 ∗ dmaPay O c a s)
          -∗ wp frame (wpE (defs₀ (F := F)) 𝒱₀ (c : Thread nD τ) none) Set.univ (k ⟨⟩) Q))
      ⊢ wp frame (wpE (defs₀ (F := F)) 𝒱₀ (c : Thread nD τ) none) Set.univ (.op w k) Q := by
  unfold owing
  iintro ⟨#HK, Hat, Hc, ⟨%W, HO⟩, Hk⟩
  ihave #HI := (known_cell c (.dma a s)) $$ HK
  iapply (Rounds.wp_wait_rest_token 𝒱₀ ER (sched O) (c : Thread nD τ) none (κ := K (cell c (.dma a s))) hw (Set.mem_univ _) ()
      (O := T) (W := W) (R := 0) (m := 0) (T := ∅) ((Nat.zero_add _).trans (expect_dma O c a s).symm)) $$ [Hc HO Hat]
  · isplitr; · iexact HI
    isplitl [Hc]; · iexact Hc
    isplitl [HO]; · iexact HO
    isplitr; · iapply (known_wait c (.dma a s) hT); iexact HK
    iexact Hat
  iintro ⟨HO, Hat, -, Hpay⟩
  ihave Hp := (Entails.of_eq (got_dma O c a s)) $$ Hpay
  imod (close (O := O) (K (cell c (.dma a s))) (cell c (.dma a s))) $$ [Hat] with H0
  · isplitr; · iexact HI
    iexact Hat
  iapply Hk
  isplitl [HO]; · iexists _; iexact HO
  isplitl [H0]; · iexact H0
  iexact Hp

/-- What a copy leaves in its destination is what it read. -/
theorem landed {c : Thread nD τ} {sp : Space} {s : Shape} {e : EltTy} (m : Memref sig c.2.kind sp s e)
    (fd : Buf (Elt F) (m.view.loc c)) (X : s.Idx → Elt F e) :
    (m.view.loc c ↦[m.view.set]{fullShare} (m.view.write (Elt F) fd X Finset.univ)) ⊢ (owns c m fullShare X : sProp 𝕄) := by
  have h := owns_intro (nD := nD) (τ := τ) (sig := sig) (Val := Elt F) (Ix := Unit) (Name := ℕ) (U := UU) (Lvl := ℕ) c m fullShare
    (m.view.write (Elt F) fd X Finset.univ)
  rwa [View.read_write_univ] at h

end Cert.KernelIdeal.RingSum
-- ==== Proof.Ring.lean ====
/- One step of either ring, run at a device. -/
module

public import proofs.«01_k».proof.Proof.Know
public import Idealize.ShloMosaic.Lib.Pipeline.Value

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable {O : Dev nD → Vec F S1024x1024 .f32} {K : GSem nD τ sig → ℕ}

/-- A chunk held at any contents is held at some contents of its buffer. -/
theorem chunkAny_elim (c : Dev nD) (j : Fin 32) :
    chunkAny c j ⊢ (iprop(∃ f : Buf (Elt F) ((chunkM j).view.loc (c : Thread nD τ)),
      (chunkM j).view.loc (c : Thread nD τ) ↦[(chunkM j).view.set]{fullShare} f) : sProp 𝕄) := by
  unfold chunkAny chunkAt owns
  iintro ⟨%X, %f, -, H⟩; iexists f; iexact H
/-- A chunk held at `X` is held at contents of its buffer that read `X`. -/
theorem chunkAt_elim (c : Dev nD) (j : Fin 32) (X : Vec F S32x1024 .f32) :
    chunkAt c j X ⊢ (iprop(∃ f : Buf (Elt F) ((chunkM j).view.loc (c : Thread nD τ)), ⌜(chunkM j).view.read (Elt F) f = X⌝
      ∗ ((chunkM j).view.loc (c : Thread nD τ) ↦[(chunkM j).view.set]{fullShare} f)) : sProp 𝕄) := .rfl

/-- The slot read through its rectangle, added to the rows. -/
theorem addVal_slot (s : Fin 31) (a : Vec F S32x1024 .f32) (f : (slotM s).view.ty.Contents (Elt F)) :
    addVal a ((sM.access (slotRect s)).read (Elt F) f) = addf a ((slotM s).view.read (Elt F) f) := by
  unfold addVal k0_pay25
  rw [shapeCast_self]
  rfl

theorem slot_set (s : Fin 31) : (sM.access (slotRect s)).set = (slotM s).view.set := (View.set_reshape _ _).symm

/-! ## The summing ring -/

/-- What a device brings to step `s`: its two cells unwaited, the right to have both its own and its neighbour's
    signalled, the neighbour's slot, and its own part of the chunk the slot is added to. -/
def rsIn (O : Dev nD → Vec F S1024x1024 .f32) (c : Dev nD) (s : Fin 31) : sProp 𝕄 :=
  iprop(atPos ER (cell c (.dma 0 s)) 0 ∅ 0 ∗ atPos ER (cell c (.dma 1 s)) 0 ∅ 0
    ∗ dutyTok ER (cell c (.dma 0 s)) 0 false ∗ reached ER (cell c (.dma 0 s)) 0
    ∗ dutyTok ER (cell (nxt c) (.dma 1 s)) 0 false ∗ reached ER (cell (nxt c) (.dma 1 s)) 0
    ∗ cred (tallyAt (cell c (.dma 1 s)) () N) ∗ slotAny (nxt c) s
    ∗ chunkAt c (rb c (s.val + 1)) (chunkOf (O c) (rb c (s.val + 1))))
/-- What it takes from it. -/
def rsOut (c : Dev nD) (s : Fin 31) : sProp 𝕄 :=
  iprop(semVal (cell c (.dma 0 s)) 0 ∗ semVal (cell c (.dma 1 s)) 0 ∗ slotAny (F := F) c s)
/-- Between steps, `n` of them left: the chunk summed so far, and that chunk of the devices it came from. -/
def rsInv (O : Dev nD → Vec F S1024x1024 .f32) (c : Dev nD) (n : ℕ) : sProp 𝕄 :=
  iprop(chunkAt c (rb c (31 - n)) (acc O (31 - n) c) ∗ olds (rb c (31 - n)) c (31 - n) ∗ owing c (dueRs c n))

set_option maxHeartbeats 800000 in
theorem rs_step (c : Dev nD) (s : Fin 31) (n : ℕ) (hs : s.val + (n + 1) = 31) (k : PUnit → Pr F PUnit) (Q : PUnit → sProp 𝕄) :
    iprop(known O K ∗ rsIn O c s ∗ rsInv O c (n + 1)
        ∗ ((rsOut c s ∗ rsInv O c n) -∗ wp frame (wpE (defs₀ (F := F)) 𝒱₀ (c : Thread nD τ) none) Set.univ (k ⟨⟩) Q))
      ⊢ wp frame (wpE (defs₀ (F := F)) 𝒱₀ (c : Thread nD τ) none) Set.univ (rsNamed c s >>= k) Q := by
  have e1 : 31 - (n + 1) = s.val := by omega
  have e0 : 31 - n = s.val + 1 := by omega
  have en : (⟨30 - n, by omega⟩ : Fin 31) = s := Fin.ext (by show 30 - n = s.val; omega)
  have ep : rb (nxt c) (s.val + 1) = rb c s.val := rb_nxt c (by have := s.isLt; omega)
  have ho := over_rs c (b := 2 + s.val) n (by omega) (by omega)
  unfold rsNamed rsStepAt rsIn rsInv rsOut
  simp only [sem4, sem5, Prog.bind_lift, Prog.bind_assoc, e1, e0]
  iintro ⟨#HK, ⟨HatS, HatR, HtS, #HrS, HtR, #HrR, HcR, Hslot, Hch⟩, ⟨Hsum, Hold, HO⟩, Hk⟩
  unfold slotAny chunkAt slotAt owns owing
  icases Hslot with ⟨%X, %fd, -, Hslot⟩
  icases Hsum with ⟨%fs, %hfs, Hsum⟩
  icases HO with ⟨%W, HO⟩
  ihave #HIS := (known_cell c (.dma 0 s)) $$ HK
  ihave #HIR := (known_cell (nxt c) (.dma 1 s)) $$ HK
  iapply (Rounds.wp_send_landing_pointsTo_with 𝒱₀ ER (sched O) (c : Thread nD τ) none (c' := (nxt c : Thread nD τ))
      (src := chunkM (rb c s.val)) (dst := slotM s) (sS := semLoc (.dma 0 s)) (sem := semLoc (.dma 1 s)) (q := fullShare)
      (fs := fs) (fd := fd) (F := olds (rb c s.val) c s.val) (r₁ := 0) (r₂ := 0) (d₁ := false) (d₂ := false)
      (κ₁ := K (cell c (.dma 0 s))) (κ₂ := K (cell (nxt c) (.dma 1 s)))
      (by rw [duties_cell]; exact Finset.mem_singleton_self _) (by rw [duties_cell]; exact Finset.mem_singleton_self _)
      () () N (amount_slot s _) (amount_cell O c _ _) (amount_cell O (nxt c) _ _) (O₀ := dueRs c (n + 1)) (dueRs c n) (by rw [dueRs, en]) (W := W)
      (by rw [payload_cell]; exact .rfl)
      (by
        rw [payload_cell]
        show _ ⊢ rsPay O (nxt c) s
        unfold rsPay
        rw [ep, olds.eq_2, prv_nxt, hfs]
        iintro ⟨⟨Hd, Hf⟩, Hs⟩
        isplitl [Hd]; · unfold slotAt; iapply (landed (c := (nxt c : Thread nD τ)) (slotM s) fd _); iexact Hd
        isplitl [Hs]
        · unfold chunkAny chunkAt; iexists _; iapply (owns_intro (c : Thread nD τ) (chunkM (rb c s.val)) fullShare fs); iexact Hs
        iexact Hf)) $$ [Hsum Hslot Hold HO HtS HtR]
  · isplitr; · iexact HIS
    isplitr; · iexact HIR
    isplitl [Hsum]; · iexact Hsum
    isplitl [Hslot Hold]; · isplitl [Hslot]; · iexact Hslot
                            iexact Hold
    isplitl [HO]; · iexact HO
    isplitl [HtS]; · iexact HtS
    isplitr; · iexact HrS
    isplitl [HtR]; · iexact HtR
    iexact HrR
  iintro ⟨HcS, HO⟩
  iapply (wait_dma (O := O) (K := K) c 0 s (T := dueRs c n) (over_rs c n (by omega) (by simp only [kindLv]; omega))
    (fun Kt => (wpE_waitDma2_eq 𝒱₀ (c : Thread nD τ) none Set.univ Kt).trans (by rw [N_chunk]; rfl)))
  isplitr; · iexact HK
  isplitl [HatS]; · iexact HatS
  isplitl [HcS]; · iexact HcS
  isplitl [HO]; · unfold owing; iexists W; iexact HO
  iintro ⟨HO, H0S, -⟩
  iapply (wait_dma (O := O) (K := K) c 1 s (T := dueRs c n) ho (fun Kt => (wpE_waitDma2_eq 𝒱₀ (c : Thread nD τ) none Set.univ Kt).trans (by rw [N_slot]; rfl)))
  isplitr; · iexact HK
  isplitl [HatR]; · iexact HatR
  isplitl [HcR]; · iexact HcR
  isplitl [HO]; · iexact HO
  iintro ⟨HO, H0R, Hp⟩
  unfold dmaPay rsPay slotAt owns
  icases Hp with ⟨⟨%fr, %hfr, Hslot⟩, Hold⟩
  icases Hch with ⟨%fc, %hfc, Hch⟩
  iapply (wp_load_rect 𝒱₀ (c : Thread nD τ) none Set.univ (m := oM) (r := chunkRect (rb c (s.val + 1))) (Finset.Subset.refl _)) $$ [Hch]
  · iexact Hch
  iintro Hch
  iapply (wp_load_rect 𝒱₀ (c : Thread nD τ) none Set.univ (m := sM) (r := slotRect s) (Finset.subset_of_eq (slot_set s))) $$ [Hslot]
  · iexact Hslot
  iintro Hslot
  iapply (wp_load_rect 𝒱₀ (c : Thread nD τ) none Set.univ (m := oM) (r := chunkRect (rb c (s.val + 1))) (Finset.Subset.refl _)) $$ [Hch]
  · iexact Hch
  iintro Hch
  iapply (wp_store 𝒱₀ (c : Thread nD τ) none Set.univ (m := oM) (r := chunkRect (rb c (s.val + 1))) (Mk := Finset.univ)
    (Finset.Subset.refl _)) $$ [Hch]
  · iexact Hch
  iintro Hch
  iapply Hk
  isplitl [H0S H0R Hslot]
  · isplitl [H0S]; · iexact H0S
    isplitl [H0R]; · iexact H0R
    iexists _; iexists fr
    isplitr; · ipureintro; rfl
    iexact Hslot
  isplitl [Hch]
  · have hv : addVal ((oM.access (chunkRect (rb c (s.val + 1)))).read (Elt F) fc) ((sM.access (slotRect s)).read (Elt F) fr)
        = acc O (s.val + 1) c := by
      rw [addVal_slot, hfr]
      exact congrArg (fun x => addf x (acc O s.val (prv c))) hfc
    rw [hv]
    have hl := landed (c := (c : Thread nD τ)) (chunkM (rb c (s.val + 1))) fc (acc O (s.val + 1) c)
    unfold owns at hl
    iapply hl; iexact Hch
  isplitl [Hold]; · iexact Hold
  unfold owing
  iexact HO

/-! ## The spreading ring -/

/-- What a device brings to step `t` of the spreading ring. -/
def agIn (c : Dev nD) (t : Fin 31) : sProp 𝕄 :=
  iprop(atPos ER (cell c (.dma 2 t)) 0 ∅ 0 ∗ atPos ER (cell c (.dma 3 t)) 0 ∅ 0
    ∗ dutyTok ER (cell c (.dma 2 t)) 0 false ∗ reached ER (cell c (.dma 2 t)) 0
    ∗ dutyTok ER (cell (nxt c) (.dma 3 t)) 0 false ∗ reached ER (cell (nxt c) (.dma 3 t)) 0
    ∗ cred (tallyAt (cell c (.dma 3 t)) () N))
/-- What it takes from it: the chunk it passed on, finished. -/
def agOut (O : Dev nD → Vec F S1024x1024 .f32) (c : Dev nD) (t : Fin 31) : sProp 𝕄 :=
  iprop(semVal (cell c (.dma 2 t)) 0 ∗ semVal (cell c (.dma 3 t)) 0
    ∗ chunkAt c (rb c (31 + t.val)) (total O (rb c (31 + t.val))))
/-- Between steps, `n` of them left: the chunk to pass on, and that chunk of the devices it still has to reach. -/
def agInv (O : Dev nD → Vec F S1024x1024 .f32) (c : Dev nD) (n : ℕ) : sProp 𝕄 :=
  iprop(chunkAt c (rb c (62 - n)) (total O (rb c (62 - n))) ∗ news (rb c (62 - n)) c n ∗ owing c (dueAg c n))

set_option maxHeartbeats 800000 in
theorem ag_step (c : Dev nD) (t : Fin 31) (n : ℕ) (ht : t.val + (n + 1) = 31) (k : PUnit → Pr F PUnit) (Q : PUnit → sProp 𝕄) :
    iprop(known O K ∗ agIn c t ∗ agInv O c (n + 1)
        ∗ ((agOut O c t ∗ agInv O c n) -∗ wp frame (wpE (defs₀ (F := F)) 𝒱₀ (c : Thread nD τ) none) Set.univ (k ⟨⟩) Q))
      ⊢ wp frame (wpE (defs₀ (F := F)) 𝒱₀ (c : Thread nD τ) none) Set.univ (agNamed c t >>= k) Q := by
  have e1 : 62 - (n + 1) = 31 + t.val := by omega
  have e0 : 62 - n = 32 + t.val := by omega
  have e3 : 30 - t.val = n := by omega
  have en : (⟨30 - n, by omega⟩ : Fin 31) = t := Fin.ext (by show 30 - n = t.val; omega)
  have ep : rb (nxt c) (32 + t.val) = rb c (31 + t.val) := by
    rw [show 32 + t.val = (31 + t.val) + 1 by omega]; exact rb_nxt c (by have := t.isLt; omega)
  have ho := over_ag c (b := 33 + t.val) n (by omega) (by omega)
  unfold agNamed agStepAt agIn agInv agOut
  simp only [sem6, sem7, Prog.bind_lift, Prog.bind_assoc, Prog.bind_op, e1, e0]
  rw [news.eq_2]
  iintro ⟨#HK, ⟨HatS, HatR, HtS, #HrS, HtR, #HrR, HcR⟩, ⟨Hch, Hnew, HO⟩, Hk⟩
  icases Hnew with ⟨Hd, Hnew⟩
  ihave Hd' := (chunkAny_elim (nxt c) (rb c (31 + t.val))) $$ Hd
  icases Hd' with ⟨%fd, Hd⟩
  ihave Hch' := (chunkAt_elim c (rb c (31 + t.val)) _) $$ Hch
  icases Hch' with ⟨%fs, %hfs, Hch⟩
  unfold owing
  icases HO with ⟨%W, HO⟩
  ihave #HIS := (known_cell c (.dma 2 t)) $$ HK
  ihave #HIR := (known_cell (nxt c) (.dma 3 t)) $$ HK
  iapply (Rounds.wp_send_pointsTo_with 𝒱₀ ER (sched O) (c : Thread nD τ) none (c' := (nxt c : Thread nD τ))
      (src := chunkM (rb c (31 + t.val))) (dst := chunkM (rb c (31 + t.val))) (sS := semLoc (.dma 2 t)) (sem := semLoc (.dma 3 t))
      (q := fullShare) (fs := fs) (fd := fd) (F := news (rb c (31 + t.val)) (nxt c) n) (r₁ := 0) (r₂ := 0) (d₁ := false) (d₂ := false)
      (κ₁ := K (cell c (.dma 2 t))) (κ₂ := K (cell (nxt c) (.dma 3 t)))
      (by rw [duties_cell]; exact Finset.mem_singleton_self _) (by rw [duties_cell]; exact Finset.mem_singleton_self _)
      () () N (amount_chunk _ _) (amount_cell O c _ _) (amount_cell O (nxt c) _ _) (O₀ := dueAg c (n + 1)) (dueAg c n)
      (by rw [dueAg, en]) (W := W)
      (by
        rw [payload_cell]
        show _ ⊢ agBack O c t
        unfold agBack chunkAt
        rw [← hfs]
        exact owns_intro (c : Thread nD τ) (chunkM (rb c (31 + t.val))) fullShare fs)
      (by
        rw [payload_cell]
        show _ ⊢ agPay O (nxt c) t
        unfold agPay chunkAt
        rw [ep, e3, hfs]
        iintro ⟨Hd, Hf⟩
        isplitl [Hd]; · iapply (landed (c := (nxt c : Thread nD τ)) (chunkM (rb c (31 + t.val))) fd _); iexact Hd
        iexact Hf)) $$ [Hch Hd Hnew HO HtS HtR]
  · isplitr; · iexact HIS
    isplitr; · iexact HIR
    isplitl [Hch]; · iexact Hch
    isplitl [Hd Hnew]; · isplitl [Hd]; · iexact Hd
                         iexact Hnew
    isplitl [HO]; · iexact HO
    isplitl [HtS]; · iexact HtS
    isplitr; · iexact HrS
    isplitl [HtR]; · iexact HtR
    iexact HrR
  iintro ⟨HcS, HO⟩
  iapply (wait_dma (O := O) (K := K) c 2 t (T := dueAg c n) (over_ag c n (by omega) (by simp only [kindLv]; omega))
    (fun Kt => (wpE_waitDma2_eq 𝒱₀ (c : Thread nD τ) none Set.univ Kt).trans (by rw [N_chunk]; rfl)))
  isplitr; · iexact HK
  isplitl [HatS]; · iexact HatS
  isplitl [HcS]; · iexact HcS
  isplitl [HO]; · unfold owing; iexists W; iexact HO
  iintro ⟨HO, H0S, Hback⟩
  iapply (wait_dma (O := O) (K := K) c 3 t (T := dueAg c n) ho
    (fun Kt => (wpE_waitDma2_eq 𝒱₀ (c : Thread nD τ) none Set.univ Kt).trans (by rw [N_chunk]; rfl)))
  isplitr; · iexact HK
  isplitl [HatR]; · iexact HatR
  isplitl [HcR]; · iexact HcR
  isplitl [HO]; · iexact HO
  iintro ⟨HO, H0R, Hp⟩
  iapply Hk
  isplitl [H0S H0R Hback]
  · isplitl [H0S]; · iexact H0S
    isplitl [H0R]; · iexact H0R
    iapply (show dmaPay O c 2 t ⊢ chunkAt c (rb c (31 + t.val)) (total O (rb c (31 + t.val))) from .rfl); iexact Hback
  unfold dmaPay agPay owing
  rw [e3]
  icases Hp with ⟨Hch, Hnew⟩
  isplitl [Hch]; · iexact Hch
  isplitl [Hnew]; · iexact Hnew
  iexact HO

end Cert.KernelIdeal.RingSum
-- ==== Proof.Local.lean ====
/- What a device computes by itself: its queries, the mask's bias, its eight heads, and its own part of the result; and
   running a counted list of steps. -/
module

public import proofs.«01_k».proof.Proof.Know
public import Idealize.ShloMosaic.Lib.VecWindow

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

/-- What it takes for device `c` to run `p` to `Q`. -/
abbrev runs (c : Dev nD) (p : Pr F PUnit) (Q : PUnit → sProp 𝕄) : sProp 𝕄 :=
  wp frame (wpE (defs₀ (F := F)) 𝒱₀ (c : Thread nD τ) none) Set.univ p Q

/-! ## Running a counted list of steps -/

/-- One assertion for each of the last `n` of `N` steps. -/
def lastSep {N : ℕ} (P : Fin N → sProp 𝕄) : (n : ℕ) → n ≤ N → sProp 𝕄
  | 0, _ => iprop(emp)
  | n + 1, h => iprop(P ⟨N - (n + 1), Nat.sub_lt (Nat.lt_of_lt_of_le (Nat.succ_pos n) h) (Nat.succ_pos n)⟩
      ∗ lastSep P n (Nat.le_of_succ_le h))

theorem lastSep_eq {N : ℕ} (P : Fin N → sProp 𝕄) : (n : ℕ) → (h : n ≤ N) →
    lastSep P n h = bigSep (Finset.univ.filter fun s : Fin N => N - n ≤ s.val) P
  | 0, h => by
    rw [Finset.filter_false_of_mem (fun s _ => by have := s.isLt; omega)]; rfl
  | n + 1, h => by
    have e : (Finset.univ.filter fun s : Fin N => N - (n + 1) ≤ s.val)
        = insert ⟨N - (n + 1), by omega⟩ (Finset.univ.filter fun s : Fin N => N - n ≤ s.val) := by
      ext s
      simp only [Finset.mem_filter, Finset.mem_univ, true_and, Finset.mem_insert, Fin.ext_iff]
      omega
    rw [e, bigSep_insert (by simp only [Finset.mem_filter, Finset.mem_univ, true_and]; omega), ← lastSep_eq P n (Nat.le_of_succ_le h)]
    rfl

theorem lastSep_all {N : ℕ} (P : Fin N → sProp 𝕄) : lastSep P N (Nat.le_refl _) = bigSep Finset.univ P := by
  rw [lastSep_eq, Finset.filter_true_of_mem (fun s _ => by omega)]

/-- The steps in order: each takes what it brings and the invariant with one step more left, and leaves what it gives and
    the invariant. -/
theorem run_last {N : ℕ} (c : Dev nD) (f : Fin N → Pr F PUnit) (pre post : Fin N → sProp 𝕄) (I : ℕ → sProp 𝕄)
    (step : ∀ (s : Fin N) (n : ℕ), s.val + (n + 1) = N → ∀ (k : PUnit → Pr F PUnit) (Q : PUnit → sProp 𝕄),
      iprop(pre s ∗ I (n + 1) ∗ ((post s ∗ I n) -∗ runs c (k ⟨⟩) Q)) ⊢ runs c (f s >>= k) Q)
    (k : Pr F PUnit) (Q : PUnit → sProp 𝕄) : (n : ℕ) → (h : n ≤ N) →
      iprop(lastSep pre n h ∗ I n ∗ ((lastSep post n h ∗ I 0) -∗ runs c k Q)) ⊢ runs c (runLast f k n h) Q
  | 0, h => by
    unfold runLast lastSep
    iintro ⟨-, HI, Hk⟩
    iapply Hk
    isplitr; · iempintro
    iexact HI
  | n + 1, h => by
    unfold runLast lastSep
    have ih := run_last c f pre post I step k Q n (Nat.le_of_succ_le h)
    iintro ⟨⟨Hp, Hps⟩, HI, Hk⟩
    iapply (step _ n (by show N - (n + 1) + (n + 1) = N; omega) (fun _ => runLast f k n (Nat.le_of_succ_le h)) Q)
    isplitl [Hp]; · iexact Hp
    isplitl [HI]; · iexact HI
    iintro ⟨Hq, HI⟩
    iapply ih
    isplitl [Hps]; · iexact Hps
    isplitl [HI]; · iexact HI
    iintro ⟨Hqs, HI⟩
    iapply Hk
    isplitl [Hq Hqs]
    · isplitl [Hq]; · iexact Hq
      iexact Hqs
    iexact HI

theorem run_all {N : ℕ} (c : Dev nD) (f : Fin N → Pr F PUnit) (pre post : Fin N → sProp 𝕄) (I : ℕ → sProp 𝕄)
    (step : ∀ (s : Fin N) (n : ℕ), s.val + (n + 1) = N → ∀ (k : PUnit → Pr F PUnit) (Q : PUnit → sProp 𝕄),
      iprop(pre s ∗ I (n + 1) ∗ ((post s ∗ I n) -∗ runs c (k ⟨⟩) Q)) ⊢ runs c (f s >>= k) Q)
    (k : Pr F PUnit) (Q : PUnit → sProp 𝕄) :
    iprop(bigSep Finset.univ pre ∗ I N ∗ ((bigSep Finset.univ post ∗ I 0) -∗ runs c k Q)) ⊢ runs c (runLast f k N (Nat.le_refl _)) Q := by
  have h := run_last c f pre post I step k Q N (Nat.le_refl _)
  rwa [lastSep_all, lastSep_all] at h

/-! ## Whole buffers -/

/-- Device `c`'s buffer `b`, at contents `f`. -/
abbrev holds (c : Dev nD) (b : Ref sig .tc) (f : b.ty.Contents (Elt F)) : sProp 𝕄 := ((c : Thread nD τ).loc b) ↦{fullShare} f

theorem read_all {b : Ref sig .tc} {off : Fin b.ty.shape.rank → ℕ} (inb : ∀ a, off a + b.ty.shape.size a ≤ b.ty.shape.size a)
    (f : b.ty.Contents (Elt F)) :
    (View.whole b).readAt (Elt F) (Rect.unit off b.ty.shape.size inb).toLoadRect f = f := View.readAt_full _ _ _

theorem write_all {b : Ref sig .tc} {off : Fin b.ty.shape.rank → ℕ} (inb : ∀ a, off a + b.ty.shape.size a ≤ b.ty.shape.size a)
    (f w : b.ty.Contents (Elt F)) :
    ((View.whole b).slice (Rect.unit off b.ty.shape.size inb)).write (Elt F) f w Finset.univ = w := by
  funext y
  have h := View.read_slice_write_emb (v := View.whole b) (Rect.unit off b.ty.shape.size inb) f w (Finset.mem_univ y)
  rw [Rect.emb_unit_full] at h
  exact h

/-! ## The values -/

/-- The queries. -/
def qVal (X WQ : Vec F S1024x1024 .bf16) : Vec F S1024x1024 .bf16 := k0_pay1 X WQ
/-- One head's attention. -/
def headVal (X WQ : Vec F S1024x1024 .bf16) (KK VV : Vec F S8x1024x128 .bf16) (h : Fin 8) : Vec F S1024x128 .bf16 :=
  k0_pay10 (fun y => qVal X WQ ((headRect h).emb y)) (fun y => KK ((kvRect h).emb y)) biasVal (fun y => VV ((kvRect h).emb y))
/-- The eight heads side by side. -/
def ctxVal (X WQ : Vec F S1024x1024 .bf16) (KK VV : Vec F S8x1024x128 .bf16) : Vec F S1024x1024 .bf16 :=
  fun x => headVal X WQ KK VV ⟨(x 1).val / 128, by have h : (x 1).val < 1024 := (x 1).isLt; omega⟩
    (fun a => match a with
      | 0 => x 0
      | 1 => ⟨(x 1).val % 128, Nat.mod_lt _ (by decide)⟩)
/-- The device's own part of the result. -/
def ownVal (X WQ : Vec F S1024x1024 .bf16) (KK VV : Vec F S8x1024x128 .bf16) (WO : Vec F S1024x1024 .bf16) : Vec F S1024x1024 .f32 :=
  k0_pay24 (ctxVal X WQ KK VV) WO

theorem headRect_emb (h : Fin 8) (y : S1024x128.Idx) :
    (headRect h).emb y = (fun a => match a with
      | 0 => y 0
      | 1 => ⟨128 * h.val + (y 1).val, by have h1 : (y 1).val < 128 := (y 1).isLt; have := h.isLt; show _ < 1024; omega⟩ : S1024x1024.Idx) := by
  funext a
  match a with
  | 0 => exact Fin.ext (show 0 + 1 * (y 0).val = (y 0).val by omega)
  | 1 => exact Fin.ext (show 128 * h.val + 1 * (y 1).val = 128 * h.val + (y 1).val by omega)

/-- The columns of the first heads hold their attention. -/
def CtxUpTo (X WQ : Vec F S1024x1024 .bf16) (KK VV : Vec F S8x1024x128 .bf16) (n : ℕ) (f : Vec F S1024x1024 .bf16) : Prop :=
  ∀ h : Fin 8, h.val < n → ∀ y : S1024x128.Idx, f ((headRect h).emb y) = headVal X WQ KK VV h y

theorem CtxUpTo.all {X WQ : Vec F S1024x1024 .bf16} {KK VV : Vec F S8x1024x128 .bf16} {f : Vec F S1024x1024 .bf16}
    (hf : CtxUpTo X WQ KK VV 8 f) : f = ctxVal X WQ KK VV := by
  funext x
  have hx : (x 1).val < 1024 := (x 1).isLt
  have h := hf ⟨(x 1).val / 128, by omega⟩ (by show (x 1).val / 128 < 8; omega)
    (fun a => match a with
      | 0 => x 0
      | 1 => ⟨(x 1).val % 128, Nat.mod_lt _ (by decide)⟩)
  rw [headRect_emb] at h
  refine (congrArg f ?_).trans h
  funext a
  match a with
  | 0 => rfl
  | 1 => exact Fin.ext (show (x 1).val = 128 * ((x 1).val / 128) + (x 1).val % 128 by omega)

/-- Storing one head's columns: those hold it, the other heads' are as they were. -/
theorem store_head (W : Fin 8 → Vec F S1024x128 .bf16) (f : Vec F S1024x1024 .bf16) (h h' : Fin 8) (y : S1024x128.Idx)
    (hf : h' ≠ h → f ((headRect h').emb y) = W h' y) :
    ((View.whole cc0_scratch3).slice (headRect h)).write (Elt F) f (W h) Finset.univ ((headRect h').emb y) = W h' y := by
  refine (congrFun (View.read_whole cc0_scratch3 _) _).symm.trans ?_
  by_cases e : h' = h
  · subst e
    exact View.read_slice_write_emb (v := View.whole cc0_scratch3) (headRect h') f (W h') (Finset.mem_univ y)
  · refine (View.read_slice_write_of_not_mem (v := View.whole cc0_scratch3) (headRect h) f (W h) Finset.univ ?_).trans (hf e)
    intro hm
    obtain ⟨z, -, hz⟩ := Finset.mem_map.mp hm
    rw [headRect_emb, headRect_emb] at hz
    have h1 : 128 * h.val + (z 1).val = 128 * h'.val + (y 1).val := congrArg Fin.val (congrFun hz 1)
    have hz1 : (z 1).val < 128 := (z 1).isLt
    have hy1 : (y 1).val < 128 := (y 1).isLt
    exact e (Fin.ext (by omega))

theorem CtxUpTo.store {X WQ : Vec F S1024x1024 .bf16} {KK VV : Vec F S8x1024x128 .bf16} {f : Vec F S1024x1024 .bf16} {h : Fin 8}
    (hf : CtxUpTo X WQ KK VV h.val f) :
    CtxUpTo X WQ KK VV (h.val + 1)
      (((View.whole cc0_scratch3).slice (headRect h)).write (Elt F) f (headVal X WQ KK VV h) Finset.univ) :=
  fun h' hlt y => store_head (headVal X WQ KK VV) f h h' y fun e =>
    hf h' (by have : h'.val ≠ h.val := fun hv => e (Fin.ext hv)
              omega) y

/-! ## The runs -/

variable (c : Dev nD) (X WQ : Vec F S1024x1024 .bf16) (KK VV : Vec F S8x1024x128 .bf16) (WO : Vec F S1024x1024 .bf16)

theorem run_q (k : PUnit → Pr F PUnit) (Q : PUnit → sProp 𝕄) :
    iprop(holds c cc0_stg0_0 X ∗ holds c cc0_stg1_0 WQ ∗ (∃ f, holds c cc0_scratch2 f)
        ∗ ((holds c cc0_stg0_0 X ∗ holds c cc0_stg1_0 WQ ∗ holds c cc0_scratch2 (qVal X WQ)) -∗ runs c (k ⟨⟩) Q))
      ⊢ runs c (qStep >>= k) Q := by
  unfold qStep
  simp only [Prog.bind_lift, Prog.bind_assoc, Prog.bind_op]
  iintro ⟨Hx, Hw, ⟨%f, Hq⟩, Hk⟩
  iapply (wp_load 𝒱₀ (c : Thread nD τ) none Set.univ (m := xM) (r := wholeRect.toLoadRect) (Finset.subset_univ _)) $$ [Hx]
  · iexact Hx
  iintro Hx
  iapply (wp_load 𝒱₀ (c : Thread nD τ) none Set.univ (m := wqM) (r := wholeRect.toLoadRect) (Finset.subset_univ _)) $$ [Hw]
  · iexact Hw
  iintro Hw
  iapply (wp_load 𝒱₀ (c : Thread nD τ) none Set.univ (m := qM) (r := wholeRect.toLoadRect) (Finset.subset_univ _)) $$ [Hq]
  · iexact Hq
  iintro Hq
  iapply (wp_store 𝒱₀ (c : Thread nD τ) none Set.univ (m := qM) (r := wholeRect) (Mk := Finset.univ) (Finset.subset_univ _)) $$ [Hq]
  · iexact Hq
  iintro Hq
  iapply Hk
  isplitl [Hx]; · iexact Hx
  isplitl [Hw]; · iexact Hw
  have e : (qM.access wholeRect).write (Elt F) f (k0_pay1 (xM.view.readAt (Elt F) wholeRect.toLoadRect X)
      (wqM.view.readAt (Elt F) wholeRect.toLoadRect WQ)) Finset.univ = qVal X WQ := by
    rw [show xM.view.readAt (Elt F) wholeRect.toLoadRect X = X from read_all _ _,
      show wqM.view.readAt (Elt F) wholeRect.toLoadRect WQ = WQ from read_all _ _]
    exact write_all (b := cc0_scratch2) _ _ _
  rw [e]
  iexact Hq

theorem run_bias (k : PUnit → Pr F PUnit) (Q : PUnit → sProp 𝕄) :
    iprop((∃ f, holds (F := F) c cc0_scratch1 f) ∗ (holds c cc0_scratch1 biasVal -∗ runs c (k ⟨⟩) Q))
      ⊢ runs c (Prog.lift (.load biasM wholeRect.toLoadRect (View.loadsAt_vmem h_S1024x1024)) >>= fun _ =>
          Prog.lift (.store biasM wholeRect biasVal Finset.univ (View.stores_vmem_bits_univ h_S1024x1024 rfl) (.inl rfl)) >>= k) Q := by
  simp only [Prog.bind_lift]
  iintro ⟨⟨%f, Hb⟩, Hk⟩
  iapply (wp_load 𝒱₀ (c : Thread nD τ) none Set.univ (m := biasM) (r := wholeRect.toLoadRect) (Finset.subset_univ _)) $$ [Hb]
  · iexact Hb
  iintro Hb
  iapply (wp_store 𝒱₀ (c : Thread nD τ) none Set.univ (m := biasM) (r := wholeRect) (Mk := Finset.univ) (Finset.subset_univ _)) $$ [Hb]
  · iexact Hb
  iintro Hb
  iapply Hk
  have e : (biasM.access wholeRect).write (Elt F) f biasVal Finset.univ = biasVal := write_all (b := cc0_scratch1) _ _ _
  rw [e]
  iexact Hb

/-- Between heads: the queries, keys, values and bias, and the columns of the heads done. -/
def headInv (n : ℕ) : sProp 𝕄 :=
  iprop(holds c cc0_scratch2 (qVal X WQ) ∗ holds c cc0_stg2_0 KK ∗ holds c cc0_stg3_0 VV ∗ holds c cc0_scratch1 biasVal
    ∗ ∃ f, ⌜CtxUpTo X WQ KK VV (8 - n) f⌝ ∗ holds c cc0_scratch3 f)

theorem head_step (h : Fin 8) (n : ℕ) (hn : h.val + (n + 1) = 8) (k : PUnit → Pr F PUnit) (Q : PUnit → sProp 𝕄) :
    iprop(emp ∗ headInv c X WQ KK VV (n + 1) ∗ ((emp ∗ headInv c X WQ KK VV n) -∗ runs c (k ⟨⟩) Q))
      ⊢ runs c (headStep h >>= k) Q := by
  have e1 : 8 - (n + 1) = h.val := by omega
  have e0 : 8 - n = h.val + 1 := by omega
  unfold headStep headInv
  simp only [Prog.bind_lift, Prog.bind_assoc, Prog.bind_op, e1, e0]
  iintro ⟨-, ⟨Hq, HK, HV, Hb, ⟨%f, %hf, Hc⟩⟩, Hk⟩
  iapply (wp_load 𝒱₀ (c : Thread nD τ) none Set.univ (m := qM) (r := (headRect h).toLoadRect) (Finset.subset_univ _)) $$ [Hq]
  · iexact Hq
  iintro Hq
  iapply (wp_load 𝒱₀ (c : Thread nD τ) none Set.univ (m := kM) (r := (kvRect h).toLoadRect) (Finset.subset_univ _)) $$ [HK]
  · iexact HK
  iintro HK
  iapply (wp_load 𝒱₀ (c : Thread nD τ) none Set.univ (m := biasM) (r := wholeRect.toLoadRect) (Finset.subset_univ _)) $$ [Hb]
  · iexact Hb
  iintro Hb
  iapply (wp_load 𝒱₀ (c : Thread nD τ) none Set.univ (m := vM) (r := (kvRect h).toLoadRect) (Finset.subset_univ _)) $$ [HV]
  · iexact HV
  iintro HV
  iapply (wp_load 𝒱₀ (c : Thread nD τ) none Set.univ (m := ctxM) (r := (headRect h).toLoadRect) (Finset.subset_univ _)) $$ [Hc]
  · iexact Hc
  iintro Hc
  iapply (wp_store 𝒱₀ (c : Thread nD τ) none Set.univ (m := ctxM) (r := headRect h) (Mk := Finset.univ) (Finset.subset_univ _)) $$ [Hc]
  · iexact Hc
  iintro Hc
  iapply Hk
  isplitr; · iempintro
  isplitl [Hq]; · iexact Hq
  isplitl [HK]; · iexact HK
  isplitl [HV]; · iexact HV
  isplitl [Hb]; · iexact Hb
  iexists _
  isplitr [Hc]
  rotate_left
  · iexact Hc
  ipureintro
  have eb : biasM.view.readAt (Elt F) wholeRect.toLoadRect biasVal = biasVal := read_all (b := cc0_scratch1) _ _
  rw [eb]
  exact hf.store

theorem run_heads (k : Pr F PUnit) (Q : PUnit → sProp 𝕄) :
    iprop(holds c cc0_scratch2 (qVal X WQ) ∗ holds c cc0_stg2_0 KK ∗ holds c cc0_stg3_0 VV ∗ holds c cc0_scratch1 biasVal
        ∗ (∃ f, holds c cc0_scratch3 f)
        ∗ ((holds c cc0_scratch2 (qVal X WQ) ∗ holds c cc0_stg2_0 KK ∗ holds c cc0_stg3_0 VV ∗ holds c cc0_scratch1 biasVal
          ∗ holds c cc0_scratch3 (ctxVal X WQ KK VV)) -∗ runs c k Q))
      ⊢ runs c (runLast (N := 8) headStep k 8 (Nat.le_refl _)) Q := by
  have h := run_all c headStep (fun _ => iprop(emp)) (fun _ => iprop(emp)) (headInv c X WQ KK VV) (head_step c X WQ KK VV) k Q
  have e : (bigSep Finset.univ (fun _ : Fin 8 => iprop(emp)) : sProp 𝕄) = iprop(emp) := bigSep_emp_const _
  rw [e] at h
  iintro ⟨Hq, HK, HV, Hb, ⟨%f, Hc⟩, Hk⟩
  iapply h
  isplitr; · iempintro
  isplitl [Hq HK HV Hb Hc]
  · unfold headInv
    isplitl [Hq]; · iexact Hq
    isplitl [HK]; · iexact HK
    isplitl [HV]; · iexact HV
    isplitl [Hb]; · iexact Hb
    iexists f
    isplitr; · ipureintro; exact fun h hlt => absurd hlt (by omega)
    iexact Hc
  iintro ⟨-, HI⟩
  unfold headInv
  icases HI with ⟨Hq, HK, HV, Hb, ⟨%g, %hg, Hc⟩⟩
  iapply Hk
  isplitl [Hq]; · iexact Hq
  isplitl [HK]; · iexact HK
  isplitl [HV]; · iexact HV
  isplitl [Hb]; · iexact Hb
  have eg : g = ctxVal X WQ KK VV := CtxUpTo.all hg
  subst eg
  iexact Hc

theorem run_out (k : PUnit → Pr F PUnit) (Q : PUnit → sProp 𝕄) :
    iprop(holds c cc0_scratch3 (ctxVal X WQ KK VV) ∗ holds c cc0_stg4_0 WO ∗ (∃ f, holds (F := F) c cc0_stg5_0 f)
        ∗ ((holds c cc0_scratch3 (ctxVal X WQ KK VV) ∗ holds c cc0_stg4_0 WO ∗ holds c cc0_stg5_0 (ownVal X WQ KK VV WO))
          -∗ runs c (k ⟨⟩) Q))
      ⊢ runs c (outStep >>= k) Q := by
  unfold outStep
  simp only [Prog.bind_lift, Prog.bind_assoc, Prog.bind_op]
  iintro ⟨Hc, Hw, ⟨%f, Ho⟩, Hk⟩
  iapply (wp_load 𝒱₀ (c : Thread nD τ) none Set.univ (m := ctxM) (r := wholeRect.toLoadRect) (Finset.subset_univ _)) $$ [Hc]
  · iexact Hc
  iintro Hc
  iapply (wp_load 𝒱₀ (c : Thread nD τ) none Set.univ (m := woM) (r := wholeRect.toLoadRect) (Finset.subset_univ _)) $$ [Hw]
  · iexact Hw
  iintro Hw
  iapply (wp_load 𝒱₀ (c : Thread nD τ) none Set.univ (m := oM) (r := wholeRect.toLoadRect) (Finset.subset_univ _)) $$ [Ho]
  · iexact Ho
  iintro Ho
  iapply (wp_store 𝒱₀ (c : Thread nD τ) none Set.univ (m := oM) (r := wholeRect) (Mk := Finset.univ) (Finset.subset_univ _)) $$ [Ho]
  · iexact Ho
  iintro Ho
  iapply Hk
  isplitl [Hc]; · iexact Hc
  isplitl [Hw]; · iexact Hw
  have e : (oM.access wholeRect).write (Elt F) f (k0_pay24 (ctxM.view.readAt (Elt F) wholeRect.toLoadRect (ctxVal X WQ KK VV))
      (woM.view.readAt (Elt F) wholeRect.toLoadRect WO)) Finset.univ = ownVal X WQ KK VV WO := by
    rw [show ctxM.view.readAt (Elt F) wholeRect.toLoadRect (ctxVal X WQ KK VV) = ctxVal X WQ KK VV from read_all (b := cc0_scratch3) _ _,
      show woM.view.readAt (Elt F) wholeRect.toLoadRect WO = WO from read_all _ _]
    exact write_all (b := cc0_stg5_0) _ _ _
  rw [e]
  iexact Ho

end Cert.KernelIdeal.RingSum
-- ==== Proof.Split.lean ====
/- The result buffer as its thirty-two chunks, the staging buffer as its slots, and the chunks counted backwards round the
   ring from a device. -/
module

public import proofs.«01_k».proof.Proof.Local
public import Idealize.ShloMosaic.Lib.Ring

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ UU ℕ

/-! ## Chunks -/

theorem chunk_disjoint (j j' : Fin 32) (h : j ≠ j') : Disjoint (chunkRect j).set (chunkRect j').set :=
  Ring.lead_disjoint (s := S1024x1024) 0 32 (fun j : Fin 32 => ![32 * j.val, 0]) S32x1024.size inb_chunk (fun _ => rfl) rfl j j' h

theorem chunk_cover : (Finset.univ : Finset (Fin 32)).biUnion (fun j => (chunkRect j).set) = Finset.univ :=
  Ring.lead_cover (s := S1024x1024) 0 32 (fun j : Fin 32 => ![32 * j.val, 0]) S32x1024.size inb_chunk (fun _ => rfl)
    (fun _ a ha => by match a with
                      | 0 => exact absurd rfl ha
                      | 1 => rfl)
    rfl (fun a ha => by match a with
                        | 0 => exact absurd rfl ha
                        | 1 => rfl) rfl

theorem chunks_split (c : Dev nD) (X : Vec F S1024x1024 .f32) :
    holds c cc0_stg5_0 X ⊢ (bigSep Finset.univ fun j : Fin 32 => chunkAt c j (chunkOf X j) : sProp 𝕄) := by
  have h := owns_rects (nD := nD) (τ := τ) (sig := sig) (Val := Elt F) (Ix := Unit) (Name := ℕ) (U := UU) (Lvl := ℕ)
    (c : Thread nD τ) oM fullShare (fun j : Fin 32 => chunkRect j) (fun _ _ => rfl) chunk_disjoint chunk_cover X
  rw [owns_whole] at h
  exact h

theorem chunks_join (c : Dev nD) (X : Vec F S1024x1024 .f32) :
    (bigSep Finset.univ fun j : Fin 32 => chunkAt c j (chunkOf X j) : sProp 𝕄) ⊢ holds c cc0_stg5_0 X := by
  have h := owns_of_rects (nD := nD) (τ := τ) (sig := sig) (Val := Elt F) (Ix := Unit) (Name := ℕ) (U := UU) (Lvl := ℕ)
    (c : Thread nD τ) oM fullShare (fun j : Fin 32 => chunkRect j) (fun _ _ => rfl) chunk_disjoint chunk_cover X
  rw [owns_whole] at h
  exact h

/-! ## Slots -/

theorem slot_disjoint (s s' : Fin 31) (h : s ≠ s') : Disjoint (slotRect s).set (slotRect s').set :=
  Ring.lead_disjoint (s := S31x32x1024) 0 1 (fun s : Fin 31 => ![s.val, 0, 0]) S1x32x1024.size inb_slot
    (fun s => (Nat.one_mul s.val).symm) rfl s s' h

theorem slot_cover : (Finset.univ : Finset (Fin 31)).biUnion (fun s => (slotRect s).set) = Finset.univ :=
  Ring.lead_cover (s := S31x32x1024) 0 1 (fun s : Fin 31 => ![s.val, 0, 0]) S1x32x1024.size inb_slot
    (fun s => (Nat.one_mul s.val).symm)
    (fun _ a ha => by match a with
                      | 0 => exact absurd rfl ha
                      | 1 => rfl
                      | 2 => rfl)
    rfl (fun a ha => by match a with
                        | 0 => exact absurd rfl ha
                        | 1 => rfl
                        | 2 => rfl) rfl

/-- A slot as a rectangle of the staging buffer, at any contents. -/
def slotRaw (c : Dev nD) (s : Fin 31) : sProp 𝕄 :=
  iprop(∃ f : Buf (Elt F) ((c : Thread nD τ).loc cc0_scratch0),
    ((c : Thread nD τ).loc cc0_scratch0) ↦[(sM.access (slotRect s)).set]{fullShare} f)

theorem slotAny_of_raw (c : Dev nD) (s : Fin 31) : slotRaw (F := F) c s ⊢ slotAny c s := by
  unfold slotRaw slotAny slotAt
  iintro ⟨%f, H⟩
  iexists _
  iapply (owns_intro (nD := nD) (τ := τ) (sig := sig) (Val := Elt F) (Ix := Unit) (Name := ℕ) (U := UU) (Lvl := ℕ) (c : Thread nD τ)
    (slotM s) fullShare f)
  have e : (slotM s).view.set = (sM.access (slotRect s)).set := View.set_reshape _ _
  rw [e]
  iexact H

theorem raw_of_slotAny (c : Dev nD) (s : Fin 31) : slotAny (F := F) c s ⊢ slotRaw c s := by
  unfold slotRaw slotAny slotAt owns
  iintro ⟨%X, %f, -, H⟩
  iexists f
  have e : (slotM s).view.set = (sM.access (slotRect s)).set := View.set_reshape _ _
  rw [← e]
  iexact H

theorem slots_split (c : Dev nD) :
    (iprop(∃ f, holds (F := F) c cc0_scratch0 f) : sProp 𝕄) ⊢ bigSep Finset.univ fun s : Fin 31 => slotAny c s := by
  iintro ⟨%f, H⟩
  have h := owns_rects (nD := nD) (τ := τ) (sig := sig) (Val := Elt F) (Ix := Unit) (Name := ℕ) (U := UU) (Lvl := ℕ)
    (c : Thread nD τ) sM fullShare (fun s : Fin 31 => slotRect s) (fun _ _ => rfl) slot_disjoint slot_cover f
  rw [owns_whole] at h
  iapply (show (holds c cc0_scratch0 f : sProp 𝕄) ⊢ bigSep Finset.univ fun s : Fin 31 => slotAny c s from
    BIBase.Entails.trans h (bigSep_mono fun s _ => by
      refine BIBase.Entails.trans ?_ (slotAny_of_raw c s)
      unfold owns slotRaw
      iintro ⟨%g, -, H⟩
      iexists g; iexact H))
  iexact H

/-- A slot's elements, as elements of the staging buffer. -/
def slotElems (c : Dev nD) (s : Fin 31) : Finset (Idx ((c : Thread nD τ).loc cc0_scratch0)) := (slotRect s).set

theorem slotElems_eq (c : Dev nD) (s : Fin 31) : (sM.access (slotRect s)).set = slotElems c s :=
  (View.set_slice _ _).trans Finset.map_refl

theorem slots_join (c : Dev nD) :
    (bigSep Finset.univ fun s : Fin 31 => slotAny (F := F) c s) ⊢ (iprop(∃ f, holds c cc0_scratch0 f) : sProp 𝕄) := by
  refine BIBase.Entails.trans (bigSep_mono fun s _ => raw_of_slotAny c s) ?_
  have f₀ : Buf (Elt F) ((c : Thread nD τ).loc cc0_scratch0) := Classical.choice ⟨fun _ => (FloatOps.ofBits .f32 0 : F .f32)⟩
  refine BIBase.Entails.trans (bigSep_mono fun s _ => ?_)
    (Ring.pointsTo_blocks_join_exists (slotElems c) slot_disjoint slot_cover (q := fullShare) f₀)
  unfold slotRaw
  rw [slotElems_eq c s]
  exact BI.Entails.refl _

/-! ## Counting backwards round the ring -/

theorem rb_inj (c : Dev nD) (a : ℕ) (ha : a ≤ 32) : Function.Injective fun k : Fin 32 => rb c (a + k.val) := fun k k' h => by
  have h' : (c.val + 64 - (a + k.val)) % 32 = (c.val + 64 - (a + k'.val)) % 32 := congrArg Fin.val h
  have := dev_lt c; have := k.isLt; have := k'.isLt
  exact Fin.ext (by omega)

/-- The chunks behind `c`, from the `a`th on. -/
def behind (c : Dev nD) (a : ℕ) (ha : a ≤ 32) : Fin 32 ≃ Fin 32 :=
  Equiv.ofBijective _ (Finite.injective_iff_bijective.mp (rb_inj c a ha))

theorem bigSep_behind (c : Dev nD) (a : ℕ) (ha : a ≤ 32) (Φ : Fin 32 → sProp 𝕄) :
    bigSep Finset.univ Φ = bigSep Finset.univ fun k : Fin 32 => Φ (rb c (a + k.val)) :=
  bigSep_univ_equiv (behind c a ha) Φ

/-- The chunk at the device, and the thirty-one behind it. -/
theorem bigSep_first (c : Dev nD) (Φ : Fin 32 → sProp 𝕄) :
    bigSep Finset.univ Φ = iprop(Φ (rb c 0) ∗ bigSep Finset.univ fun s : Fin 31 => Φ (rb c (s.val + 1))) := by
  rw [bigSep_behind c 0 (by decide), Fin.univ_succ, Finset.cons_eq_insert, bigSep_insert (by simp [Fin.succ_ne_zero]), bigSep_map]
  refine congrArg₂ _ rfl (bigSep_congr fun s _ => ?_)
  show Φ (rb c (0 + (s.val + 1))) = _
  rw [Nat.zero_add]

/-- The thirty-one chunks from the thirty-first behind on, and the next. -/
theorem bigSep_final (c : Dev nD) (Φ : Fin 32 → sProp 𝕄) :
    bigSep Finset.univ Φ = iprop(Φ (rb c 62) ∗ bigSep Finset.univ fun t : Fin 31 => Φ (rb c (31 + t.val))) := by
  rw [bigSep_behind c 31 (by decide), Fin.univ_castSuccEmb, Finset.cons_eq_insert,
    bigSep_insert (by simp [Fin.ext_iff]; omega), bigSep_map]
  rfl

end Cert.KernelIdeal.RingSum
-- ==== Proof.Body.lean ====
/- The whole body at a device: the meeting before the ring, the device's own part, the two rings, the meeting after. -/
module

public import proofs.«01_k».proof.Proof.Ring
public import proofs.«01_k».proof.Proof.Split

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable {O : Dev nD → Vec F S1024x1024 .f32} {K : GSem nD τ sig → ℕ}

/-! ## Meeting the neighbours -/

/-- What a device brings to a barrier: its own cell unwaited with the two units it will wait for, and the right to signal
    either neighbour's. -/
def meetIn (c : Dev nD) (kd : Kind) : sProp 𝕄 :=
  iprop(atPos ER (cell c kd) 0 ∅ 0 ∗ cred (tallyAt (cell c kd) () 2)
    ∗ dutyTok ER (cell (prv c) kd) 0 true ∗ dutyTok ER (cell (nxt c) kd) 0 false
    ∗ reached ER (cell (prv c) kd) 0 ∗ reached ER (cell (nxt c) kd) 0)

theorem got_both (c : Dev nD) (kd : Kind) (hp : payers (some kd) = {true, false}) :
    bigSep ((sched O).duties (cell c kd) 0 \ ∅) (fun u => (sched O).payload (cell c kd) 0 u)
      = iprop(pay O c (some kd) true ∗ pay O c (some kd) false) := by
  rw [Finset.sdiff_empty, duties_cell, hp]
  rw [bigSep_insert (by decide), bigSep_singleton, payload_cell, payload_cell]; rfl

theorem run_meet (c : Dev nD) (kd : Kind) (sem : Sem sig) (hsem : semLoc kd = .reg sem) (hp : payers (some kd) = {true, false})
    (ha : amt (some kd) = 1) {T : CellTallies nD τ sig Unit} (hT : Over (kindLv (some kd)) T)
    (k : PUnit → Pr F PUnit) (Q : PUnit → sProp 𝕄) :
    iprop(known O K ∗ meetIn c kd
        ∗ owing c (T + tallyAt (cell (nxt c) kd) () 1 + tallyAt (cell (prv c) kd) () 1)
        ∗ pay O (prv c) (some kd) true ∗ pay O (nxt c) (some kd) false
        ∗ ((owing c T ∗ semVal (cell c kd) 0 ∗ pay O c (some kd) true ∗ pay O c (some kd) false) -∗ runs c (k ⟨⟩) Q))
      ⊢ runs c (meet sem (prv c) (nxt c) >>= k) Q := by
  have ec (d : Dev nD) : cell d kd = ((d : Thread nD τ), .reg sem) := by rw [← hsem]
  have hdl (d : Dev nD) (x : Bool) : x ∈ (sched O).duties ((d : Thread nD τ), .reg sem) 0 := by
    rw [← ec d, duties_cell, hp]; cases x <;> decide
  have hal (d : Dev nD) (x : Bool) : (sched O).amount ((d : Thread nD τ), .reg sem) 0 x = 1 := by
    rw [← ec d, amount_cell, ha]
  have hpl (d : Dev nD) (x : Bool) : (sched O).payload ((d : Thread nD τ), .reg sem) 0 x = pay O d (some kd) x := by
    rw [← ec d, payload_cell]
  have hel : (sched O).expect ((c : Thread nD τ), .reg sem) 0 = 2 := by rw [← ec c, expect_bar O c kd hp ha]
  have hgl := got_both (O := O) c kd hp
  have hkl : known O K ⊢ MayWait (c : Thread nD τ) (.reg sem) () T := by rw [← hsem]; exact known_wait c kd hT
  unfold meet meetIn owing semSignalWord semWaitWord
  simp only [Prog.bind_lift, Prog.bind_assoc, Prog.bind_op, Prog.bind_ret]
  iintro ⟨#HK, ⟨Hat, Hc, HtP, HtN, #HrP, #HrN⟩, ⟨%W, HO⟩, HpP, HpN, Hk⟩
  ihave #HI := (known_cell c kd) $$ HK
  ihave #HIP := (known_cell (prv c) kd) $$ HK
  ihave #HIN := (known_cell (nxt c) kd) $$ HK
  rw [ec c, ec (prv c), ec (nxt c)] at *
  iapply (Rounds.wp_signal 𝒱₀ ER (sched O) (c : Thread nD τ) none (dst := (prv c : Thread nD τ)) (sem := sem) (r := 0) (d := true)
      (κ := K ((prv c : Thread nD τ), .reg sem)) (hdl _ _) (hal _ _) ()
      (T + tallyAt ((nxt c : Thread nD τ), .reg sem) () 1) rfl (W := W)) $$ [HO HtP HpP]
  · isplitr; · iexact HIP
    isplitl [HO]; · iexact HO
    isplitl [HtP]; · iexact HtP
    isplitl [HpP]; · rw [hpl]; iexact HpP
    iexact HrP
  iintro HO
  iapply (Rounds.wp_signal 𝒱₀ ER (sched O) (c : Thread nD τ) none (dst := (nxt c : Thread nD τ)) (sem := sem) (r := 0) (d := false)
      (κ := K ((nxt c : Thread nD τ), .reg sem)) (hdl _ _) (hal _ _) () T rfl (W := W)) $$ [HO HtN HpN]
  · isplitr; · iexact HIN
    isplitl [HO]; · iexact HO
    isplitl [HtN]; · iexact HtN
    isplitl [HpN]; · rw [hpl]; iexact HpN
    iexact HrN
  iintro HO
  iapply (Rounds.wp_wait_rest_token 𝒱₀ ER (sched O) (c : Thread nD τ) none (κ := K ((c : Thread nD τ), .reg sem))
      (wpE_semWait_eq 𝒱₀ (c : Thread nD τ) none Set.univ) (Set.mem_univ _) () (O := T) (W := W) (R := 0) (m := 0) (T := ∅)
      ((Nat.zero_add 2).trans hel.symm)) $$ [Hc HO Hat]
  · isplitr; · iexact HI
    isplitl [Hc]; · iexact Hc
    isplitl [HO]; · iexact HO
    isplitr; · iapply hkl; iexact HK
    iexact Hat
  iintro ⟨HO, Hat, -, Hpay⟩
  ihave Hp := (Entails.of_eq hgl) $$ Hpay
  imod (close (O := O) (K ((c : Thread nD τ), .reg sem)) ((c : Thread nD τ), .reg sem)) $$ [Hat] with H0
  · isplitr; · iexact HI
    iexact Hat
  iapply Hk
  isplitl [HO]; · iexists _; iexact HO
  isplitl [H0]; · iexact H0
  iexact Hp

theorem meet_ret (sem : Sem sig) (l r : Dev nD) : (meet sem l r : Pr F PUnit) = meet sem l r >>= fun _ => .ret ⟨⟩ := rfl

/-! ## The whole body -/

/-- What a device brings to step `s` of a ring from the start: its send and receive cells unwaited, the right to have its
    own send cell and its neighbour's receive cell signalled, and the credit it waits with. -/
def stepIn (c : Dev nD) (a b : Fin 4) (s : Fin 31) : sProp 𝕄 :=
  iprop(atPos ER (cell c (.dma a s)) 0 ∅ 0 ∗ atPos ER (cell c (.dma b s)) 0 ∅ 0
    ∗ dutyTok ER (cell c (.dma a s)) 0 false ∗ reached ER (cell c (.dma a s)) 0
    ∗ dutyTok ER (cell (nxt c) (.dma b s)) 0 false ∗ cred (tallyAt (cell c (.dma b s)) () N))

/-- What a device brings to the closing barrier from the start. -/
def endIn (c : Dev nD) : sProp 𝕄 :=
  iprop(atPos ER (cell c .fin) 0 ∅ 0 ∗ cred (tallyAt (cell c .fin) () 2)
    ∗ dutyTok ER (cell (prv c) .fin) 0 true ∗ dutyTok ER (cell (nxt c) .fin) 0 false)

/-- A device's own cells that others signal are open. -/
def openIn (c : Dev nD) : sProp 𝕄 :=
  iprop((bigSep Finset.univ fun s : Fin 31 => reached ER (cell c (.dma 1 s)) 0)
    ∗ (bigSep Finset.univ fun s : Fin 31 => reached ER (cell c (.dma 3 s)) 0)
    ∗ reached ER (cell c .fin) 0)

instance openIn_persistent (c : Dev nD) : BI.Persistent (openIn (F := F) c) := by unfold openIn; infer_instance

/-- What a device brings to the protocol. -/
def talkIn (c : Dev nD) : sProp 𝕄 :=
  iprop(meetIn c .bar ∗ endIn c ∗ openIn c ∗ (bigSep Finset.univ fun s : Fin 31 => stepIn c 0 1 s)
    ∗ (bigSep Finset.univ fun s : Fin 31 => stepIn c 2 3 s))

/-- Every cell closed, its counter at zero. -/
def talkOut (c : Dev nD) : sProp 𝕄 :=
  iprop(semVal (cell c .bar) 0 ∗ semVal (cell c .fin) 0
    ∗ (bigSep Finset.univ fun s : Fin 31 => semVal (cell c (.dma 0 s)) 0)
    ∗ (bigSep Finset.univ fun s : Fin 31 => semVal (cell c (.dma 1 s)) 0)
    ∗ (bigSep Finset.univ fun s : Fin 31 => semVal (cell c (.dma 2 s)) 0)
    ∗ (bigSep Finset.univ fun s : Fin 31 => semVal (cell c (.dma 3 s)) 0))

theorem chunkOf_result (j : Fin 32) : chunkOf (result O) j = total O j := by
  funext y
  have h0 : (y 0).val < 32 := (y 0).isLt
  have hx : (((chunkRect j).emb y) 0).val = 32 * j.val + (y 0).val := by
    show 32 * j.val + 1 * (y 0).val = _; omega
  have hy : (((chunkRect j).emb y) 1) = y 1 := Fin.ext (by show 0 + 1 * (y 1).val = (y 1).val; omega)
  unfold chunkOf result
  have ej : (⟨(((chunkRect j).emb y) 0).val / 32, by rw [hx]; have := j.isLt; omega⟩ : Fin 32) = j :=
    Fin.ext (by show (((chunkRect j).emb y) 0).val / 32 = j.val; rw [hx]; omega)
  rw [ej]
  refine congrArg (total O j) ?_
  funext a
  match a with
  | 0 => exact Fin.ext (by show (((chunkRect j).emb y) 0).val % 32 = (y 0).val; rw [hx]; omega)
  | 1 => exact hy

/-- Two families, and a third the two make. -/
theorem bigSep_zip {ι : Type} [Fintype ι] {P Q R : ι → sProp 𝕄} (h : ∀ i, iprop(P i ∗ Q i) ⊢ R i) :
    iprop(bigSep Finset.univ P ∗ bigSep Finset.univ Q) ⊢ bigSep Finset.univ R :=
  BIBase.Entails.trans (Entails.of_eq (bigSep_sep Finset.univ P Q).symm) (bigSep_mono fun i _ => h i)

/-- The two rings and the closing barrier: from the device's own part to the sum of all. -/
theorem run_rings (c : Dev nD) (Q : PUnit → sProp 𝕄) :
    iprop(known O K ∗ endIn c ∗ barPay c true ∗ barPay c false
        ∗ (bigSep Finset.univ fun s : Fin 31 => stepIn c 0 1 s) ∗ (bigSep Finset.univ fun s : Fin 31 => stepIn c 2 3 s)
        ∗ owing c (dueRs c 31) ∗ holds c cc0_stg5_0 (O c)
        ∗ ((holds c cc0_stg5_0 (result O) ∗ (∃ f, holds c cc0_scratch0 f) ∗ owing c 0 ∗ semVal (cell c .fin) 0
          ∗ (bigSep Finset.univ fun s : Fin 31 => semVal (cell c (.dma 0 s)) 0)
          ∗ (bigSep Finset.univ fun s : Fin 31 => semVal (cell c (.dma 1 s)) 0)
          ∗ (bigSep Finset.univ fun s : Fin 31 => semVal (cell c (.dma 2 s)) 0)
          ∗ (bigSep Finset.univ fun s : Fin 31 => semVal (cell c (.dma 3 s)) 0)) -∗ runs c (.ret ⟨⟩) Q))
      ⊢ runs c (runLast (N := 31) (rsNamed c)
          (runLast (N := 31) (agNamed c) (meet endSem (prv c) (nxt c)) 31 (Nat.le_refl _)) 31 (Nat.le_refl _)) Q := by
  have hrs := run_all c (rsNamed c) (rsIn O c) (rsOut c) (fun n => iprop(known O K ∗ rsInv O c n))
    (fun s n hs k Q => by
      iintro ⟨Hin, ⟨#HK, HI⟩, Hk⟩
      iapply (rs_step (O := O) (K := K) c s n hs k Q)
      isplitr; · iexact HK
      isplitl [Hin]; · iexact Hin
      isplitl [HI]; · iexact HI
      iintro ⟨Ho, HI⟩
      iapply Hk
      isplitl [Ho]; · iexact Ho
      isplitr; · iexact HK
      iexact HI)
    (runLast (N := 31) (agNamed c) (meet endSem (prv c) (nxt c)) 31 (Nat.le_refl _)) Q
  have hag := run_all c (agNamed c) (agIn c) (agOut O c) (fun n => iprop(known O K ∗ agInv O c n))
    (fun s n hs k Q => by
      iintro ⟨Hin, ⟨#HK, HI⟩, Hk⟩
      iapply (ag_step (O := O) (K := K) c s n hs k Q)
      isplitr; · iexact HK
      isplitl [Hin]; · iexact Hin
      isplitl [HI]; · iexact HI
      iintro ⟨Ho, HI⟩
      iapply Hk
      isplitl [Ho]; · iexact Ho
      isplitr; · iexact HK
      iexact HI)
    (meet endSem (prv c) (nxt c)) Q
  have hmeet := run_meet (O := O) (K := K) c .fin endSem rfl rfl rfl (T := 0) (fun g u h => absurd h (Nat.lt_irrefl 0))
    (fun _ => .ret ⟨⟩) Q
  rw [← meet_ret, zero_add] at hmeet
  have hin : iprop((bigSep Finset.univ fun s : Fin 31 => stepIn c 0 1 s)
      ∗ (bigSep Finset.univ fun s : Fin 31 => reached ER (cell (nxt c) (.dma 1 s)) 0)
      ∗ (bigSep Finset.univ fun s : Fin 31 => slotAny (nxt c) s)
      ∗ (bigSep Finset.univ fun s : Fin 31 => chunkAt c (rb c (s.val + 1)) (chunkOf (O c) (rb c (s.val + 1)))))
      ⊢ (bigSep Finset.univ fun s : Fin 31 => rsIn O c s : sProp 𝕄) := by
    refine BIBase.Entails.trans (sep_mono_right (BIBase.Entails.trans (sep_mono_right (bigSep_zip fun s => BI.Entails.refl _))
      (bigSep_zip fun s => BI.Entails.refl _))) (bigSep_zip fun s => ?_)
    unfold stepIn rsIn
    iintro ⟨⟨H1, H2, H3, H4, H5, H6⟩, H7, H8, H9⟩
    isplitl [H1]; · iexact H1
    isplitl [H2]; · iexact H2
    isplitl [H3]; · iexact H3
    isplitl [H4]; · iexact H4
    isplitl [H5]; · iexact H5
    isplitl [H7]; · iexact H7
    isplitl [H6]; · iexact H6
    isplitl [H8]; · iexact H8
    iexact H9
  have hin' : iprop((bigSep Finset.univ fun s : Fin 31 => stepIn c 2 3 s)
      ∗ (bigSep Finset.univ fun s : Fin 31 => reached ER (cell (nxt c) (.dma 3 s)) 0))
      ⊢ (bigSep Finset.univ fun s : Fin 31 => agIn c s : sProp 𝕄) := by
    refine bigSep_zip fun s => ?_
    unfold stepIn agIn
    iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H7]; · iexact H7
    iexact H6
  have hsplit := chunks_split c (O c)
  rw [bigSep_first c (fun j => chunkAt c j (chunkOf (O c) j))] at hsplit
  have hjoin := chunks_join c (result O)
  rw [bigSep_final c (fun j => chunkAt c j (chunkOf (result O) j))] at hjoin
  simp only [chunkOf_result] at hjoin
  have hslots := slots_join (F := F) c
  have hrsOut : (bigSep Finset.univ (rsOut (F := F) c) : sProp 𝕄) ⊢ iprop((bigSep Finset.univ fun s : Fin 31 => semVal (cell c (.dma 0 s)) 0)
      ∗ (bigSep Finset.univ fun s : Fin 31 => semVal (cell c (.dma 1 s)) 0) ∗ (bigSep Finset.univ fun s : Fin 31 => slotAny c s)) := by
    rw [← bigSep_sep', ← bigSep_sep']; exact BI.Entails.refl _
  have hagOut : (bigSep Finset.univ (agOut O c) : sProp 𝕄) ⊢ iprop((bigSep Finset.univ fun s : Fin 31 => semVal (cell c (.dma 2 s)) 0)
      ∗ (bigSep Finset.univ fun s : Fin 31 => semVal (cell c (.dma 3 s)) 0)
      ∗ (bigSep Finset.univ fun t : Fin 31 => chunkAt c (rb c (31 + t.val)) (total O (rb c (31 + t.val))))) := by
    rw [← bigSep_sep', ← bigSep_sep']; exact BI.Entails.refl _
  have hnews := olds_to_news (F := F) (rb c 31) c
  unfold barPay
  rw [if_pos rfl, if_neg Bool.false_ne_true]
  iintro ⟨#HK, Hend, Hpt, #Hpf, Hrs, Hag, HO, Ho, Hk⟩
  icases Hpt with ⟨Hsl, #Hr1, #Hr3, #Hrf⟩
  ihave Hch := hsplit $$ Ho
  icases Hch with ⟨Hc0, Hcs⟩
  iapply hrs
  isplitl [Hrs Hsl Hcs]
  · iapply hin
    isplitl [Hrs]; · iexact Hrs
    isplitr; · iexact Hr1
    isplitl [Hsl]; · iexact Hsl
    iexact Hcs
  isplitl [HO Hc0]
  · isplitr; · iexact HK
    unfold rsInv
    isplitl [Hc0]; · iexact Hc0
    isplitr; · unfold olds; iempintro
    iexact HO
  iintro ⟨Hrs, -, HI⟩
  ihave Hrs' := hrsOut $$ Hrs
  icases Hrs' with ⟨H0, H1, Hsl⟩
  unfold rsInv
  icases HI with ⟨Hlast, Hold, HO⟩
  iapply hag
  isplitl [Hag]
  · iapply hin'
    isplitl [Hag]; · iexact Hag
    iexact Hr3
  isplitl [Hlast Hold HO]
  · isplitr; · iexact HK
    unfold agInv
    isplitl [Hlast]
    · iapply (Entails.of_eq (show chunkAt c (rb c 31) (acc O 31 c) = chunkAt c (rb c 31) (total O (rb c 31)) by rw [acc_last]))
      iexact Hlast
    isplitl [Hold]; · iapply hnews; iexact Hold
    iexact HO
  iintro ⟨Hag, -, HI⟩
  ihave Hag' := hagOut $$ Hag
  icases Hag' with ⟨H2, H3, Hcs⟩
  unfold agInv
  icases HI with ⟨Hlast, -, HO⟩
  iapply hmeet
  isplitr; · iexact HK
  isplitl [Hend]
  · unfold endIn meetIn
    icases Hend with ⟨A1, A2, A3, A4⟩
    isplitl [A1]; · iexact A1
    isplitl [A2]; · iexact A2
    isplitl [A3]; · iexact A3
    isplitl [A4]; · iexact A4
    isplitr; · iexact Hpf
    iexact Hrf
  isplitl [HO]; · iexact HO
  isplitr; · unfold pay; iempintro
  isplitr; · unfold pay; iempintro
  iintro ⟨HO, Hf0, -⟩
  iapply Hk
  isplitl [Hlast Hcs]
  · iapply hjoin
    isplitl [Hlast]; · iexact Hlast
    iexact Hcs
  isplitl [Hsl]; · iapply hslots; iexact Hsl
  isplitl [HO]; · iexact HO
  isplitl [Hf0]; · iexact Hf0
  isplitl [H0]; · iexact H0
  isplitl [H1]; · iexact H1
  isplitl [H2]; · iexact H2
  iexact H3

variable (c : Dev nD) (X WQ : Vec F S1024x1024 .bf16) (KK VV : Vec F S8x1024x128 .bf16) (WO : Vec F S1024x1024 .bf16)

/-- The five operands. -/
def operands : sProp 𝕄 :=
  iprop(holds c cc0_stg0_0 X ∗ holds c cc0_stg1_0 WQ ∗ holds c cc0_stg2_0 KK ∗ holds c cc0_stg3_0 VV ∗ holds c cc0_stg4_0 WO)
/-- The four scratch buffers. -/
def scratches : sProp 𝕄 :=
  iprop((∃ f, holds (F := F) c cc0_scratch0 f) ∗ (∃ f, holds (F := F) c cc0_scratch1 f)
    ∗ (∃ f, holds (F := F) c cc0_scratch2 f) ∗ (∃ f, holds (F := F) c cc0_scratch3 f))

/-- The body, run at a device: the result is the sum of every device's own part. -/
theorem run_body (hO : O c = ownVal X WQ KK VV WO) (Q : PUnit → sProp 𝕄) :
    iprop(known O K ∗ talkIn c ∗ owing c (dueAll c) ∗ operands c X WQ KK VV WO ∗ (∃ f, holds c cc0_stg5_0 f) ∗ scratches c
        ∗ ((talkOut c ∗ owing c 0 ∗ operands c X WQ KK VV WO ∗ holds c cc0_stg5_0 (result O) ∗ scratches c) -∗ Q ⟨⟩))
      ⊢ runs c (rest c) Q := by
  rw [rest_eq]
  unfold talkIn operands scratches talkOut dueAll
  iintro ⟨#HK, ⟨Hm, He, #Hop, Hrs, Hag⟩, HO, ⟨Hx, Hwq, Hkk, Hvv, Hwo⟩, Ho, ⟨Hs, Hb, Hq, Hc⟩, Hk⟩
  iapply (run_meet (O := O) (K := K) c .bar barSem rfl rfl rfl (T := dueRs c 31)
    (over_rs c 31 (Nat.le_refl _) (by decide)) _ Q)
  isplitr; · iexact HK
  isplitl [Hm]; · iexact Hm
  isplitl [HO]; · iexact HO
  isplitl [Hs]
  · unfold pay barPay openIn
    rw [if_pos rfl, nxt_prv]
    icases Hop with ⟨#Hr1, #Hr3, #Hrf⟩
    isplitl [Hs]; · iapply (slots_split (F := F) c); iexact Hs
    isplitr; · iexact Hr1
    isplitr; · iexact Hr3
    iexact Hrf
  isplitr
  · unfold pay barPay openIn
    rw [if_neg Bool.false_ne_true, prv_nxt]
    icases Hop with ⟨-, -, #Hrf⟩
    iexact Hrf
  iintro ⟨HO, Hb0, Hpt, Hpf⟩
  iapply (run_q c X WQ _ Q)
  isplitl [Hx]; · iexact Hx
  isplitl [Hwq]; · iexact Hwq
  isplitl [Hq]; · iexact Hq
  iintro ⟨Hx, Hwq, Hq⟩
  iapply (run_bias c _ Q)
  isplitl [Hb]; · iexact Hb
  iintro Hb
  iapply (run_heads c X WQ KK VV _ Q)
  isplitl [Hq]; · iexact Hq
  isplitl [Hkk]; · iexact Hkk
  isplitl [Hvv]; · iexact Hvv
  isplitl [Hb]; · iexact Hb
  isplitl [Hc]; · iexact Hc
  iintro ⟨Hq, Hkk, Hvv, Hb, Hc⟩
  iapply (run_out c X WQ KK VV WO _ Q)
  isplitl [Hc]; · iexact Hc
  isplitl [Hwo]; · iexact Hwo
  isplitl [Ho]; · iexact Ho
  iintro ⟨Hc, Hwo, Ho⟩
  iapply (run_rings (O := O) (K := K) c Q)
  isplitr; · iexact HK
  isplitl [He]; · iexact He
  isplitl [Hpt]; · iapply (show pay O c (some .bar) true ⊢ barPay c true from .rfl); iexact Hpt
  isplitl [Hpf]; · iapply (show pay O c (some .bar) false ⊢ barPay c false from .rfl); iexact Hpf
  isplitl [Hrs]; · iexact Hrs
  isplitl [Hag]; · iexact Hag
  isplitl [HO]; · iexact HO
  isplitl [Ho]; · rw [hO]; iexact Ho
  iintro ⟨Ho, Hs, HO, Hf0, H0, H1, H2, H3⟩
  rw [runs, wp_ret]
  imodintro
  iapply Hk
  isplitl [Hb0 Hf0 H0 H1 H2 H3]
  · isplitl [Hb0]; · iexact Hb0
    isplitl [Hf0]; · iexact Hf0
    isplitl [H0]; · iexact H0
    isplitl [H1]; · iexact H1
    isplitl [H2]; · iexact H2
    iexact H3
  isplitl [HO]; · iexact HO
  isplitl [Hx Hwq Hkk Hvv Hwo]
  · isplitl [Hx]; · iexact Hx
    isplitl [Hwq]; · iexact Hwq
    isplitl [Hkk]; · iexact Hkk
    isplitl [Hvv]; · iexact Hvv
    iexact Hwo
  isplitl [Ho]; · iexact Ho
  isplitl [Hs]; · iexact Hs
  isplitl [Hb]; · iexists _; iexact Hb
  isplitl [Hq]; · iexists _; iexact Hq
  iexists _; iexact Hc

end Cert.KernelIdeal.RingSum
-- ==== Proof.Obligation.lean ====
/- The one kernel call: what it starts from, what it leaves, and that the body takes the one to the other. -/
module

public import proofs.«01_k».proof.Proof.Body
public import proofs.«01_k».proof.Proof.Gen.KernelIdeal.Points
public import Idealize.ShloMosaic.Lib.Pipeline.FrameBody
public import Idealize.ShloMosaic.Lib.Pipeline.ValueKit.Geometry

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (W : Dev nD → Valuation τ sig (Elt F))

/-! ## Contents -/

/-- The five operands of device `c`, -/
def inX (c : Dev nD) : Vec F S1024x1024 .bf16 := W c main_v5
def inWq (c : Dev nD) : Vec F S1024x1024 .bf16 := W c main_v10
def inK (c : Dev nD) : Vec F S8x1024x128 .bf16 := W c main_v12
def inV (c : Dev nD) : Vec F S8x1024x128 .bf16 := W c main_v14
def inWo (c : Dev nD) : Vec F S1024x1024 .bf16 := W c main_v19
/-- its own part of the result, -/
def part (c : Dev nD) : Vec F S1024x1024 .f32 := ownVal (inX W c) (inWq W c) (inK W c) (inV W c) (inWo W c)
/-- and the result, the same on every device. -/
def summed : Vec F S1024x1024 .f32 := result (part W)

/-! ## The proof data -/

/-- Before the body: everything known, the protocol's start, the scratch buffers. -/
def atStart (c : Dev nD) : sProp 𝕄 :=
  iprop((∃ K, known (part W) K) ∗ talkIn c ∗ scratches (F := F) c ∗ ∃ r, prngReg c r)
/-- After it: every cell closed. -/
def atEnd (c : Dev nD) : sProp 𝕄 :=
  iprop(talkOut (F := F) c ∗ scratches (F := F) c ∗ ∃ r, prngReg c r)

/-- The call on device `c`: each operand is left as it came, the result window holds the sum. -/
def dat (c : Dev nD) : Dat τ (Elt F) Unit ℕ UU ℕ cfg0 c where
  A w := W c (Proc.devRef .tc (Pipeline.arrRef spec0 w))
  after w _ := match w with
    | ⟨0, _⟩ => inX W c
    | ⟨1, _⟩ => inWq W c
    | ⟨2, _⟩ => inK W c
    | ⟨3, _⟩ => inV W c
    | ⟨4, _⟩ => inWo W c
    | ⟨5, _⟩ => summed W
  Φ t := if t.val = 0 then atStart W c else atEnd c
  q _ := fullShare
  owed t := if t.val = 0 then dueAll c else 0

theorem N_cfg : cfg0.N = 1 := N_0

theorem owed_first (c : Dev nD) : (dat W c).owed t0_0.castSucc = dueAll c := by
  show (if (t0_0.castSucc : Fin (cfg0.N + 1)).val = 0 then dueAll c else 0) = dueAll c; exact if_pos rfl
theorem owed_zero (c : Dev nD) : (dat W c).owed 0 = dueAll c := by
  show (if (0 : Fin (cfg0.N + 1)).val = 0 then dueAll c else 0) = dueAll c; exact if_pos rfl
theorem owed_last (c : Dev nD) : (dat W c).owed (Fin.last _) = 0 := by
  show (if (Fin.last cfg0.N).val = 0 then dueAll c else 0) = 0
  rw [Fin.val_last, if_neg (by rw [N_cfg]; decide)]

theorem from_zero (k n : ℕ) : 0 * k + 1 * n = n := by omega

/-- Each operand's staging buffer holds the operand. -/
theorem found_0 (c : Dev nD) (d) : (dat W c).before 0 t0_0 d = inX W c := by
  unfold Dat.before; rw [if_pos (fetch0_0 t0_0)]
  funext y
  refine congrArg (inX W c) (funext fun a => Fin.ext ?_)
  fin_cases a <;> exact from_zero _ _
theorem found_1 (c : Dev nD) (d) : (dat W c).before 1 t0_0 d = inWq W c := by
  unfold Dat.before; rw [if_pos (fetch0_1 t0_0)]
  funext y
  refine congrArg (inWq W c) (funext fun a => Fin.ext ?_)
  fin_cases a <;> exact from_zero _ _
theorem found_2 (c : Dev nD) (d) : (dat W c).before 2 t0_0 d = inK W c := by
  unfold Dat.before; rw [if_pos (fetch0_2 t0_0)]
  funext y
  refine congrArg (inK W c) (funext fun a => Fin.ext ?_)
  fin_cases a <;> exact from_zero _ _
theorem found_3 (c : Dev nD) (d) : (dat W c).before 3 t0_0 d = inV W c := by
  unfold Dat.before; rw [if_pos (fetch0_3 t0_0)]
  funext y
  refine congrArg (inV W c) (funext fun a => Fin.ext ?_)
  fin_cases a <;> exact from_zero _ _
theorem found_4 (c : Dev nD) (d) : (dat W c).before 4 t0_0 d = inWo W c := by
  unfold Dat.before; rw [if_pos (fetch0_4 t0_0)]
  funext y
  refine congrArg (inWo W c) (funext fun a => Fin.ext ?_)
  fin_cases a <;> exact from_zero _ _

/-! ## The body -/

theorem owing_intro (c : Dev nD) (t : Fin (cfg0.N + 1)) {T : CellTallies nD τ sig Unit} (h : (dat W c).owed t = T) :
    (owing c T : sProp 𝕄) ⊢ (dat W c).owesAt () t := by
  unfold Dat.owesAt Pipeline.owesWithin Dat.bound owing; rw [h, show (dat W c).recorded t = Set.univ from rfl]
  iintro ⟨%Wd, HO⟩; iexists Wd; isplitr; · ipureintro; exact fun _ _ => Or.inl trivial
  iexact HO
theorem owing_elim (c : Dev nD) (t : Fin (cfg0.N + 1)) {T : CellTallies nD τ sig Unit} (h : (dat W c).owed t = T) :
    (dat W c).owesAt () t ⊢ (owing c T : sProp 𝕄) := by
  unfold Dat.owesAt Pipeline.owesWithin owing; rw [h]
  iintro ⟨%Wd, -, HO⟩; iexists Wd; iexact HO

theorem stage_holds (c : Dev nD) (b : Ref sig .tc) (f : b.ty.Contents (Elt F)) :
    (owns (c : Thread nD τ) (Memref.whole b) fullShare f : sProp 𝕄) = holds c b f := owns_whole (c : Thread nD τ) b fullShare f

/-- What the six staging buffers hold when the body starts. -/
theorem stages_in (c : Dev nD) :
    (bigSep Finset.univ fun w : Fin cfg0.W =>
        iprop(∃ d, owns (c : Thread nD τ) ((cfg0.win w).stage (cfg0.slots t0_0 w)) fullShare ((dat W c).before w t0_0 d)))
      ⊢ (iprop(operands c (inX W c) (inWq W c) (inK W c) (inV W c) (inWo W c) ∗ ∃ f, holds c cc0_stg5_0 f) : sProp 𝕄) := by
  rw [bigSep_W0]
  unfold operands
  simp only [found_0, found_1, found_2, found_3, found_4]
  iintro ⟨⟨%d0, H0⟩, ⟨%d1, H1⟩, ⟨%d2, H2⟩, ⟨%d3, H3⟩, ⟨%d4, H4⟩, ⟨%d5, H5⟩⟩
  isplitr [H5]
  · isplitl [H0]; · iapply (Entails.of_eq (stage_holds c cc0_stg0_0 (inX W c))); iexact H0
    isplitl [H1]; · iapply (Entails.of_eq (stage_holds c cc0_stg1_0 (inWq W c))); iexact H1
    isplitl [H2]; · iapply (Entails.of_eq (stage_holds c cc0_stg2_0 (inK W c))); iexact H2
    isplitl [H3]; · iapply (Entails.of_eq (stage_holds c cc0_stg3_0 (inV W c))); iexact H3
    iapply (Entails.of_eq (stage_holds c cc0_stg4_0 (inWo W c))); iexact H4
  · iexists ((dat W c).before 5 t0_0 d5)
    iapply (Entails.of_eq (stage_holds c cc0_stg5_0 ((dat W c).before 5 t0_0 d5))); iexact H5

/-- What they hold when it ends. -/
theorem stages_out (c : Dev nD) :
    (iprop(operands c (inX W c) (inWq W c) (inK W c) (inV W c) (inWo W c) ∗ holds c cc0_stg5_0 (summed W)) : sProp 𝕄)
      ⊢ bigSep Finset.univ fun w : Fin cfg0.W =>
        owns (c : Thread nD τ) ((cfg0.win w).stage (cfg0.slots t0_0 w)) fullShare ((dat W c).after w t0_0) := by
  rw [bigSep_W0]
  unfold operands
  iintro ⟨⟨H0, H1, H2, H3, H4⟩, H5⟩
  isplitl [H0]; · iapply (Entails.of_eq (stage_holds c cc0_stg0_0 (inX W c)).symm); iexact H0
  isplitl [H1]; · iapply (Entails.of_eq (stage_holds c cc0_stg1_0 (inWq W c)).symm); iexact H1
  isplitl [H2]; · iapply (Entails.of_eq (stage_holds c cc0_stg2_0 (inK W c)).symm); iexact H2
  isplitl [H3]; · iapply (Entails.of_eq (stage_holds c cc0_stg3_0 (inV W c)).symm); iexact H3
  isplitl [H4]; · iapply (Entails.of_eq (stage_holds c cc0_stg4_0 (inWo W c)).symm); iexact H4
  iapply (Entails.of_eq (stage_holds c cc0_stg5_0 (summed W)).symm); iexact H5

theorem body_runs (c : Dev nD) (Q : PUnit → sProp 𝕄) : runs c (rest (F := F) c) Q ⊢ runs c (bodyAt0 (F := F) t0_0) Q := by
  rw [body_eq]; unfold prog
  rw [runs, runs, wp_deviceId]

/-- The body, as the call asks for it. -/
theorem body_obligation (c : Dev nD) : BodyObligation (dat W c) defs₀ 𝒱₀ () Set.univ := fun t => by
  obtain rfl := fin_N0 t
  rw [show (dat W c).Φ t0_0.castSucc = atStart W c from rfl, show (dat W c).Φ t0_0.succ = atEnd c from rfl]
  iintro ⟨HΦ, HO, Hst⟩
  iapply (body_runs c _)
  unfold atStart
  icases HΦ with ⟨⟨%K, #HK⟩, HT, Hs, Hp⟩
  ihave HO' := (owing_elim W c _ (owed_first W c)) $$ HO
  ihave Hst' := (stages_in W c) $$ Hst
  icases Hst' with ⟨Hops, Hout⟩
  iapply (run_body (O := part W) (K := K) c (inX W c) (inWq W c) (inK W c) (inV W c) (inWo W c) rfl _)
  isplitr; · iexact HK
  isplitl [HT]; · iexact HT
  isplitl [HO']; · iexact HO'
  isplitl [Hops]; · iexact Hops
  isplitl [Hout]; · iexact Hout
  isplitl [Hs]; · iexact Hs
  iintro ⟨HT, HO, Hops, Hout, Hs⟩
  isplitl [HT Hs Hp]
  · unfold atEnd
    isplitl [HT]; · iexact HT
    isplitl [Hs]; · iexact Hs
    iexact Hp
  isplitl [HO]; · iapply (owing_intro W c t0_0.succ (owed_last W c)); iexact HO
  iapply (stages_out W c)
  isplitl [Hops]; · iexact Hops
  iexact Hout

/-! ## The arrays before and after -/

/-- The buffers after the call: the result array holds the sum. -/
def leaves (c : Dev nD) : Valuation τ sig (Elt F) := Function.update (W c) main_v20 (summed W)

theorem array_in (c : Dev nD) (w : Fin 6) : (dat W c).arrAt w 0 = W c (Proc.devRef .tc (Pipeline.arrRef spec0 w)) := rfl

theorem array_out (c : Dev nD) (w : Fin 6) :
    (dat W c).arrAt w cfg0.N = leaves W c (Proc.devRef .tc (Pipeline.arrRef spec0 w)) := by
  have hin (w : Fin 6) (h : (cfg0.win w).isOut = false)
      (hne : (Proc.devRef (τ := τ) .tc (Pipeline.arrRef spec0 w)) ≠ Proc.devRef .tc main_v20) :
      (dat W c).arrAt w cfg0.N = leaves W c (Proc.devRef .tc (Pipeline.arrRef spec0 w)) := by
    rw [(dat W c).arrAt_in w h]
    unfold leaves
    exact (Function.update_of_ne hne _ _).symm
  have hout : (dat W c).arrAt 5 cfg0.N = leaves W c (Proc.devRef .tc (Pipeline.arrRef spec0 5)) := by
    have hl : leaves W c (Proc.devRef .tc (Pipeline.arrRef spec0 5)) = summed W := Function.update_self _ _ _
    rw [hl]
    exact (dat W c).arrAt_eq_of_after_last 5 t0_0 (by decide +kernel) (summed W) (fun j => rfl)
  match w with
  | 0 => exact hin 0 rfl (by decide)
  | 1 => exact hin 1 rfl (by decide)
  | 2 => exact hin 2 rfl (by decide)
  | 3 => exact hin 3 rfl (by decide)
  | 4 => exact hin 4 rfl (by decide)
  | 5 => exact hout

end Cert.KernelIdeal.RingSum
-- ==== Proof.Deal.lean ====
/- Dealing out the protocol at the launch: the credits a device waits with, its cells, and the rights to signal its
   neighbours', handed round the ring. -/
module

public import proofs.«01_k».proof.Proof.Body
public import Idealize.SL.ProofMode.BigOp

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

theorem pair {ι : Type} [Fintype ι] {P Q : ι → sProp 𝕄} :
    iprop(bigSep Finset.univ P ∗ bigSep Finset.univ Q) ⊢ bigSep Finset.univ fun i => iprop(P i ∗ Q i) :=
  Entails.of_eq (bigSep_sep Finset.univ P Q).symm
theorem unpair {ι : Type} [Fintype ι] {P Q : ι → sProp 𝕄} :
    (bigSep Finset.univ fun i => iprop(P i ∗ Q i)) ⊢ iprop(bigSep Finset.univ P ∗ bigSep Finset.univ Q) :=
  Entails.of_eq (bigSep_sep Finset.univ P Q)

/-! ## Credits -/

/-- What all others together owe device `c` at its copy cells of one ring, in `n` steps, -/
def gotDma (b : Fin 4) (c : Dev nD) : ℕ → CellTallies nD τ sig Unit
  | 0 => 0
  | n + 1 => gotDma b c n + tallyAt (cell c (.dma b ⟨30 - n, by omega⟩)) () N
/-- and altogether. -/
def gotAll (c : Dev nD) : CellTallies nD τ sig Unit :=
  tallyAt (cell c .fin) () 2 + gotDma 3 c 31 + gotDma 1 c 31 + tallyAt (cell c .bar) () 2

theorem sum_nxt (f : Dev nD → CellTallies nD τ sig Unit) : ∑ d, f (nxt d) = ∑ d, f d := Equiv.sum_comp ring f
theorem sum_prv (f : Dev nD → CellTallies nD τ sig Unit) : ∑ d, f (prv d) = ∑ d, f d := Equiv.sum_comp ring.symm f

theorem sum_meet (k : Kind) :
    ∑ d : Dev nD, (tallyAt (cell (nxt d) k) () 1 + tallyAt (cell (prv d) k) () 1) = ∑ d : Dev nD, tallyAt (cell d k) () 2 := by
  rw [Finset.sum_add_distrib, sum_nxt (fun d => tallyAt (cell d k) () 1), sum_prv (fun d => tallyAt (cell d k) () 1),
    ← Finset.sum_add_distrib]
  exact Finset.sum_congr rfl fun d _ => tallyAt_add _ _ _ _

theorem sum_ag : ∀ n, ∑ d : Dev nD, dueAg d n = ∑ d : Dev nD, (tallyAt (cell d .fin) () 2 + gotDma 3 d n)
  | 0 => by
    simp only [dueAg, dueFin, gotDma, add_zero]
    exact sum_meet .fin
  | n + 1 => by
    simp only [dueAg, gotDma]
    rw [Finset.sum_add_distrib, sum_ag n, sum_nxt (fun d => tallyAt (cell d (.dma 3 ⟨30 - n, by omega⟩)) () N), ← Finset.sum_add_distrib]
    exact Finset.sum_congr rfl fun d _ => add_assoc _ _ _

theorem sum_rs : ∀ n, ∑ d : Dev nD, dueRs d n = ∑ d : Dev nD, (tallyAt (cell d .fin) () 2 + gotDma 3 d 31 + gotDma 1 d n)
  | 0 => by
    simp only [dueRs, gotDma, add_zero]
    exact sum_ag 31
  | n + 1 => by
    simp only [dueRs]
    rw [Finset.sum_add_distrib, sum_rs n, sum_nxt (fun d => tallyAt (cell d (.dma 1 ⟨30 - n, by omega⟩)) () N), ← Finset.sum_add_distrib]
    exact Finset.sum_congr rfl fun d _ => add_assoc _ _ _

/-- What the devices owe is what they are owed. -/
theorem sum_all : ∑ d : Dev nD, dueAll d = ∑ d : Dev nD, gotAll d := by
  have h : ∀ d : Dev nD, dueAll d = dueRs d 31 + (tallyAt (cell (nxt d) .bar) () 1 + tallyAt (cell (prv d) .bar) () 1) :=
    fun d => add_assoc _ _ _
  rw [Finset.sum_congr rfl fun d _ => h d, Finset.sum_add_distrib, sum_rs 31, sum_meet, ← Finset.sum_add_distrib]
  rfl

/-- Tallies on one device's own cells. -/
def Own (c : Dev nD) (T : CellTallies nD τ sig Unit) : Prop := ∀ g, T g ≠ 0 → g.1 = (c.tc : Thread nD τ)

theorem own_cell (c : Dev nD) (k : Kind) (n : ℕ) : Own c (tallyAt (cell c k) () n) := fun g h => by
  by_contra hn
  exact h (tallyAt_ne_cell (fun e => hn (congrArg Prod.fst e)) () n)
theorem own_add {c : Dev nD} {T T' : CellTallies nD τ sig Unit} (h : Own c T) (h' : Own c T') : Own c (T + T') := fun g hg => by
  by_contra hn
  refine hg ?_
  rw [Pi.add_apply, by_contra fun e => hn (h g e), by_contra fun e => hn (h' g e), add_zero]
theorem own_dma (b : Fin 4) (c : Dev nD) : ∀ n, Own c (gotDma b c n)
  | 0 => fun g h => absurd rfl h
  | n + 1 => own_add (own_dma b c n) (own_cell c _ _)
theorem own_all (c : Dev nD) : Own c (gotAll c) :=
  own_add (own_add (own_add (own_cell c _ _) (own_dma 3 c 31)) (own_dma 1 c 31)) (own_cell c _ _)

theorem cred_dma (b : Fin 4) (c : Dev nD) : ∀ (n : ℕ) (h : n ≤ 31),
    (cred (gotDma b c n) : sProp 𝕄) ⊢ lastSep (fun s : Fin 31 => cred (tallyAt (cell c (.dma b s)) () N)) n h
  | 0, _ => by
    unfold gotDma lastSep
    rw [cred_zero]
  | n + 1, h => by
    have ih := cred_dma b c n (Nat.le_of_succ_le h)
    have e : (⟨30 - n, by omega⟩ : Fin 31) = ⟨31 - (n + 1), by omega⟩ := Fin.ext (by show 30 - n = 31 - (n + 1); omega)
    unfold gotDma lastSep
    rw [e]
    iintro H
    ihave H' := (cred_add _ _).1 $$ H
    icases H' with ⟨H1, H2⟩
    isplitl [H2]; · iexact H2
    iapply ih; iexact H1

/-- The launch's credit, cell by cell. -/
theorem credits (c : Dev nD) :
    (Pipeline.launchCred dueAll c : sProp 𝕄) ⊢ iprop(cred (tallyAt (cell c .bar) () 2) ∗ cred (tallyAt (cell c .fin) () 2)
      ∗ (bigSep Finset.univ fun s : Fin 31 => cred (tallyAt (cell c (.dma 1 s)) () N))
      ∗ (bigSep Finset.univ fun s : Fin 31 => cred (tallyAt (cell c (.dma 3 s)) () N))) := by
  rw [Pipeline.launchCred_of_sum dueAll gotAll sum_all (fun d g h => own_all d g h) c]
  have h1 := cred_dma (F := F) 1 c 31 (Nat.le_refl _)
  have h3 := cred_dma (F := F) 3 c 31 (Nat.le_refl _)
  rw [lastSep_all] at h1 h3
  unfold gotAll
  iintro H
  ihave H' := (cred_add _ _).1 $$ H; icases H' with ⟨H, Hb⟩
  ihave H' := (cred_add _ _).1 $$ H; icases H' with ⟨H, H1⟩
  ihave H' := (cred_add _ _).1 $$ H; icases H' with ⟨Hf, H3⟩
  isplitl [Hb]; · iexact Hb
  isplitl [Hf]; · iexact Hf
  isplitl [H1]; · iapply h1; iexact H1
  iapply h3; iexact H3

/-! ## The cells opened inside the call -/

/-- The semaphores the call allocates for itself: the closing barrier's and the copies'. -/
abbrev OwnIx : Type := Unit ⊕ (Fin 4 × Fin 31)
def ownKind : OwnIx → Kind
  | .inl _ => .fin
  | .inr p => .dma p.1 p.2
def osem (k : OwnIx) : SemLoc sig := semLoc (ownKind k)

theorem ownKind_inj : Function.Injective ownKind := fun k k' h => by
  rcases k with _ | ⟨a, s⟩ <;> rcases k' with _ | ⟨a', s'⟩ <;> simp_all [ownKind]
theorem ownKind_ne (k : OwnIx) : ownKind k ≠ .bar := by
  rcases k with _ | ⟨a, s⟩ <;> exact fun h => Kind.noConfusion h

theorem osem_facts : Pipeline.OwnSemFacts spec0 osem where
  isScoped := by decide +kernel
  inj := fun k k' h => ownKind_inj (semLoc_inj h)
  disj := fun k w s h => by
    have e : ∀ (w : Fin 6) (s : Fin (spec0 w).nbuf), kindOf (.dma ((spec0 w).sem s)) = none := by decide
    have h' := congrArg kindOf h
    rw [e w s] at h'
    rw [show osem k = semLoc (ownKind k) from rfl, kindOf_semLoc] at h'
    cases h'

/-- One assertion for each of the copies of family `a`. -/
abbrev each (Φ : Kind → sProp 𝕄) (a : Fin 4) : sProp 𝕄 := bigSep Finset.univ fun s : Fin 31 => Φ (.dma a s)

theorem families (Φ : Kind → sProp 𝕄) :
    (bigSep Finset.univ fun p : Fin 4 × Fin 31 => Φ (.dma p.1 p.2)) = iprop(each Φ 0 ∗ each Φ 1 ∗ each Φ 2 ∗ each Φ 3) := by
  rw [bigSep_univ_prod, bigSep_univ_eq_bigSepL [(0 : Fin 4), 1, 2, 3] (by decide) (by decide)]
  rfl

theorem own_kinds (Φ : Kind → sProp 𝕄) :
    (bigSep Finset.univ fun k : OwnIx => Φ (ownKind k)) = iprop(Φ .fin ∗ each Φ 0 ∗ each Φ 1 ∗ each Φ 2 ∗ each Φ 3) := by
  rw [bigSep_univ_sum, show (bigSep Finset.univ fun b : Fin 4 × Fin 31 => Φ (ownKind (.inr b))) = _ from families Φ,
    bigSep_univ_of_subsingleton ()]
  rfl

theorem own_counters (c : Dev nD) :
    (Pipeline.ownSems0 osem c : sProp 𝕄)
      = iprop(semVal (cell c .fin) 0 ∗ each (fun k => semVal (cell c k) 0) 0 ∗ each (fun k => semVal (cell c k) 0) 1
        ∗ each (fun k => semVal (cell c k) 0) 2 ∗ each (fun k => semVal (cell c k) 0) 3) :=
  own_kinds (fun k => (semVal (cell c k) 0 : sProp 𝕄))

variable (O : Dev nD → Vec F S1024x1024 .f32)

/-- What a device brings to step `s` of a ring from the launch. -/
def ready (c : Dev nD) (a b : Fin 4) (s : Fin 31) : sProp 𝕄 :=
  iprop(openTok ER (cell c (.dma a s)) ∗ openTok ER (cell c (.dma b s)) ∗ dutyTok ER (cell c (.dma a s)) 0 false
    ∗ dutyTok ER (cell (nxt c) (.dma b s)) 0 false ∗ cred (tallyAt (cell c (.dma b s)) () N))

/-- What the launch keeps for device `c`. -/
def kept (c : Dev nD) : sProp 𝕄 :=
  iprop((∃ K : GSem nD τ sig → ℕ, bigSep allCells fun g => cellInv ER (sched O) (K g) g) ∗ meetIn c .bar
    ∗ (openTok ER (cell c .fin) ∗ cred (tallyAt (cell c .fin) () 2)
      ∗ dutyTok ER (cell (prv c) .fin) 0 true ∗ dutyTok ER (cell (nxt c) .fin) 0 false)
    ∗ (bigSep Finset.univ fun s : Fin 31 => ready c 0 1 s) ∗ (bigSep Finset.univ fun s : Fin 31 => ready c 2 3 s))

variable {O} {K : GSem nD τ sig → ℕ}

theorem cell_opens (c : Dev nD) (k : Kind) :
    iprop(known O K ∗ openTok ER (cell c k) ∗ semVal (cell c k) 0)
      ⊢ (|={Set.univ}=> iprop(atPos ER (cell c k) 0 ∅ 0 ∗ reached ER (cell c k) 0) : sProp 𝕄) := by
  iintro ⟨#HK, Ho, Hv⟩
  iapply (Rounds.cell_open ER (sched O) (g := cell c k) (κ := K (cell c k)) (Set.mem_univ _))
  isplitr; · iapply (known_cell c k); iexact HK
  isplitl [Ho] <;> iassumption

theorem step_opens (c : Dev nD) (a b : Fin 4) (s : Fin 31) :
    iprop(known O K ∗ (ready c a b s ∗ semVal (cell c (.dma a s)) 0 ∗ semVal (cell c (.dma b s)) 0))
      ⊢ (|={Set.univ}=> iprop(stepIn c a b s ∗ reached ER (cell c (.dma b s)) 0) : sProp 𝕄) := by
  unfold ready stepIn
  iintro ⟨#HK, ⟨Hoa, Hob, Hta, Htb, Hc⟩, Hva, Hvb⟩
  imod (cell_opens (O := O) (K := K) c (.dma a s)) $$ [Hoa Hva] with ⟨Hpa, #Hra⟩
  · isplitr; · iexact HK
    isplitl [Hoa] <;> iassumption
  imod (cell_opens (O := O) (K := K) c (.dma b s)) $$ [Hob Hvb] with ⟨Hpb, #Hrb⟩
  · isplitr; · iexact HK
    isplitl [Hob] <;> iassumption
  imodintro
  isplitl
  · isplitl [Hpa]; · iexact Hpa
    isplitl [Hpb]; · iexact Hpb
    isplitl [Hta]; · iexact Hta
    isplitr; · iexact Hra
    isplitl [Htb] <;> iassumption
  iexact Hrb

theorem steps_open (c : Dev nD) (a b : Fin 4) :
    iprop(known O K ∗ (bigSep Finset.univ fun s : Fin 31 => ready c a b s)
        ∗ each (fun k => semVal (cell c k) 0) a ∗ each (fun k => semVal (cell c k) 0) b)
      ⊢ (|={Set.univ}=> iprop((bigSep Finset.univ fun s : Fin 31 => stepIn c a b s)
        ∗ bigSep Finset.univ fun s : Fin 31 => reached ER (cell c (.dma b s)) 0) : sProp 𝕄) := by
  iintro ⟨#HK, Hr, Ha, Hb⟩
  imod (bigSep_fupd Finset.univ (fun s : Fin 31 => iprop(stepIn c a b s ∗ reached ER (cell c (.dma b s)) 0))) $$ [Hr Ha Hb] with H
  · iapply (bigSep_with_persistent (S := Finset.univ) (R := known O K)
      (Φ := fun s : Fin 31 => iprop(ready c a b s ∗ semVal (cell c (.dma a s)) 0 ∗ semVal (cell c (.dma b s)) 0))
      (Ψ := fun s : Fin 31 => iprop(|={Set.univ}=> (stepIn c a b s ∗ reached ER (cell c (.dma b s)) 0)))
      (fun s _ => step_opens c a b s))
    isplitr; · iexact HK
    iapply pair; isplitl [Hr]; · iexact Hr
    iapply pair; isplitl [Ha] <;> iassumption
  imodintro
  iapply unpair; iexact H

theorem known_intro : iprop((bigSep allCells fun g => cellInv ER (sched O) (K g) g) ∗ levAts L lv) ⊢ (known O K : sProp 𝕄) := by
  unfold known
  exact BI.Entails.refl _

/-- What the steps of either ring become once their cells are opened. -/
theorem opens_known (c : Dev nD) :
    iprop(known O K ∗ (openTok ER (cell c .fin) ∗ semVal (cell c .fin) 0)
        ∗ ((bigSep Finset.univ fun s : Fin 31 => ready c 0 1 s)
          ∗ each (fun k => semVal (cell c k) 0) 0 ∗ each (fun k => semVal (cell c k) 0) 1)
        ∗ ((bigSep Finset.univ fun s : Fin 31 => ready c 2 3 s)
          ∗ each (fun k => semVal (cell c k) 0) 2 ∗ each (fun k => semVal (cell c k) 0) 3))
      ⊢ (|={Set.univ}=> iprop(atPos ER (cell c .fin) 0 ∅ 0 ∗ openIn c ∗ (bigSep Finset.univ fun s : Fin 31 => stepIn c 0 1 s)
        ∗ (bigSep Finset.univ fun s : Fin 31 => stepIn c 2 3 s)) : sProp 𝕄) := by
  unfold openIn
  iintro ⟨#HK, H, H01, H23⟩
  imod (cell_opens (O := O) (K := K) c .fin) $$ [H] with ⟨Hpf, Hrf⟩
  · isplitr; · iexact HK
    iexact H
  imod (steps_open (O := O) (K := K) c 0 1) $$ [H01] with ⟨Hs01, Hr1⟩
  · isplitr; · iexact HK
    iexact H01
  imod (steps_open (O := O) (K := K) c 2 3) $$ [H23] with ⟨Hs23, Hr3⟩
  · isplitr; · iexact HK
    iexact H23
  imodintro
  isplitl [Hpf]; · iexact Hpf
  isplitl [Hr1 Hr3 Hrf]
  · isplitl [Hr1]; · iexact Hr1
    isplitl [Hr3]; · iexact Hr3
    iexact Hrf
  isplitl [Hs01]; · iexact Hs01
  iexact Hs23

/-- Inside the call the cells are opened. -/
theorem opens (c : Dev nD) :
    iprop(kept O c ∗ Pipeline.ownSems0 osem c ∗ levAts L lv)
      ⊢ (|={Set.univ}=> iprop((∃ K, known O K) ∗ talkIn c) : sProp 𝕄) := by
  rw [own_counters]
  unfold kept talkIn endIn
  iintro ⟨⟨⟨%K, HI⟩, Hm, ⟨Hof, Hcf, Htp, Htn⟩, H01, H23⟩, ⟨Hf, H0, H1, H2, H3⟩, Hlev⟩
  ihave #HK := (known_intro (O := O) (K := K)) $$ [HI Hlev]
  · isplitl [HI]; · iexact HI
    iexact Hlev
  imod (opens_known (O := O) (K := K) c) $$ [Hof Hf H01 H0 H1 H23 H2 H3] with ⟨Hpf, Hop, Hs01, Hs23⟩
  · isplitr; · iexact HK
    isplitl [Hof Hf]
    · isplitl [Hof]; · iexact Hof
      iexact Hf
    isplitl [H01 H0 H1]
    · isplitl [H01]; · iexact H01
      isplitl [H0]; · iexact H0
      iexact H1
    isplitl [H23]; · iexact H23
    isplitl [H2]; · iexact H2
    iexact H3
  imodintro
  isplitr; · iexists K; iexact HK
  isplitl [Hm]; · iexact Hm
  isplitl [Hpf Hcf Htp Htn]
  · isplitl [Hpf]; · iexact Hpf
    isplitl [Hcf]; · iexact Hcf
    isplitl [Htp]; · iexact Htp
    iexact Htn
  isplitl [Hop]; · iexact Hop
  isplitl [Hs01]; · iexact Hs01
  iexact Hs23

end Cert.KernelIdeal.RingSum
-- ==== Proof.Fund.lean ====
/- At the launch every cell is set up, and each device is handed what it brings to the protocol. -/
module

public import proofs.«01_k».proof.Proof.Deal

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## The cells and the rights to signal them -/

/-- The first barrier's cells, live from the launch; -/
def barEmb : Dev nD ↪ GSem nD τ sig := ⟨fun c => cell c .bar, fun _ _ h => (cell_inj h).1⟩
/-- the other cells, opened inside the call; -/
def scEmb : Dev nD × OwnIx ↪ GSem nD τ sig :=
  ⟨fun p => cell p.1 (ownKind p.2), fun _ _ h => Prod.ext (cell_inj h).1 (ownKind_inj (cell_inj h).2)⟩
/-- and the payments: a barrier cell is paid from both sides, a copy cell once. -/
abbrev TokIx : Type := (Bool × Bool) ⊕ (Fin 4 × Fin 31)
def tokKind : TokIx → Kind × Bool
  | .inl (b, d) => (if b then .bar else .fin, d)
  | .inr (a, s) => (.dma a s, false)
theorem tokKind_inj : Function.Injective tokKind := fun x y h => by
  rcases x with ⟨_ | _, _ | _⟩ | ⟨a, s⟩ <;> rcases y with ⟨_ | _, _ | _⟩ | ⟨a', s'⟩ <;> simp_all [tokKind]
def tokEmb : Dev nD × TokIx ↪ GSem nD τ sig × ℕ × Bool :=
  ⟨fun p => (cell p.1 (tokKind p.2).1, 0, (tokKind p.2).2), fun p q h => by
    have h1 := cell_inj (congrArg Prod.fst h)
    have h2 : (tokKind p.2).2 = (tokKind q.2).2 := congrArg (fun t : GSem nD τ sig × ℕ × Bool => t.2.2) h
    exact Prod.ext h1.1 (tokKind_inj (Prod.ext h1.2 h2))⟩

@[irreducible] def barCells : Finset (GSem nD τ sig) := Finset.univ.map barEmb
@[irreducible] def scCells : Finset (GSem nD τ sig) := Finset.univ.map scEmb
@[irreducible] def tokens : Finset (GSem nD τ sig × ℕ × Bool) := Finset.univ.map tokEmb

theorem disjoint_cells : Disjoint barCells scCells := by
  unfold barCells scCells
  rw [Finset.disjoint_left]
  rintro g h₁ h₂
  obtain ⟨c, -, rfl⟩ := Finset.mem_map.mp h₁
  obtain ⟨p, -, h⟩ := Finset.mem_map.mp h₂
  exact ownKind_ne p.2 (cell_inj (c := p.1) (c' := c) (k := ownKind p.2) (k' := .bar) h).2

theorem union_cells : barCells ∪ scCells = allCells := by
  unfold barCells scCells allCells
  ext g
  rw [Finset.mem_union, Finset.mem_map, Finset.mem_map, Finset.mem_image]
  constructor
  · rintro (⟨c, -, h⟩ | ⟨p, -, h⟩)
    · exact ⟨(c, .bar), Finset.mem_univ _, h⟩
    · exact ⟨(p.1, ownKind p.2), Finset.mem_univ _, h⟩
  · rintro ⟨⟨c, k⟩, -, h⟩
    cases k with
    | bar => exact .inl ⟨c, Finset.mem_univ _, h⟩
    | fin => exact .inr ⟨(c, .inl ()), Finset.mem_univ _, h⟩
    | dma a s => exact .inr ⟨(c, .inr (a, s)), Finset.mem_univ _, h⟩

theorem over_bars (Φ : GSem nD τ sig → sProp 𝕄) : bigSep barCells Φ = bigSep Finset.univ fun c : Dev nD => Φ (cell c .bar) := by
  unfold barCells; rw [bigSep_map]; rfl
theorem over_owns (Φ : GSem nD τ sig → sProp 𝕄) :
    bigSep scCells Φ = bigSep Finset.univ fun c : Dev nD => iprop(Φ (cell c .fin) ∗ each (fun k => Φ (cell c k)) 0
      ∗ each (fun k => Φ (cell c k)) 1 ∗ each (fun k => Φ (cell c k)) 2 ∗ each (fun k => Φ (cell c k)) 3) := by
  unfold scCells; rw [bigSep_map, bigSep_univ_prod]
  exact bigSep_congr fun c _ => own_kinds fun k => Φ (cell c k)

/-- The right to pay `d` at device `c`'s cell `k`. -/
abbrev may (c : Dev nD) (k : Kind) (d : Bool) : sProp 𝕄 := dutyTok ER (cell c k) 0 d

theorem over_tokens :
    (bigSep tokens fun x => (dutyTok ER x.1 x.2.1 x.2.2 : sProp 𝕄)) = bigSep Finset.univ fun c : Dev nD =>
      iprop((may c .bar true ∗ may c .bar false ∗ may c .fin true ∗ may c .fin false)
        ∗ each (fun k => may c k false) 0 ∗ each (fun k => may c k false) 1 ∗ each (fun k => may c k false) 2
        ∗ each (fun k => may c k false) 3) := by
  unfold tokens; rw [bigSep_map, bigSep_univ_prod]
  refine bigSep_congr fun c _ => ?_
  rw [bigSep_univ_sum, bigSep_univ_eq_bigSepL [((true, true) : Bool × Bool), (true, false), (false, true), (false, false)]
    (by decide) (by decide)]
  rw [show (bigSep Finset.univ fun b : Fin 4 × Fin 31 => (dutyTok ER (tokEmb (c, .inr b)).1 (tokEmb (c, .inr b)).2.1 (tokEmb (c, .inr b)).2.2 : sProp 𝕄)) = _
    from families fun k => may (F := F) c k false]
  rfl

/-! ## Handed round -/

theorem to_next (P : Dev nD → sProp 𝕄) : bigSep Finset.univ P ⊢ bigSep Finset.univ fun c => P (nxt c) :=
  Entails.of_eq (bigSep_univ_equiv ring P)
theorem to_prev (P : Dev nD → sProp 𝕄) : bigSep Finset.univ P ⊢ bigSep Finset.univ fun c => P (prv c) :=
  Entails.of_eq (bigSep_univ_equiv ring.symm P)

/-- Each device gets the rights to pay its neighbours. -/
theorem handed :
    (bigSep Finset.univ fun c : Dev nD =>
      iprop((may c .bar true ∗ may c .bar false ∗ may c .fin true ∗ may c .fin false)
        ∗ each (fun k => may c k false) 0 ∗ each (fun k => may c k false) 1 ∗ each (fun k => may c k false) 2
        ∗ each (fun k => may c k false) 3))
      ⊢ (bigSep Finset.univ fun c : Dev nD =>
      iprop((may (prv c) .bar true ∗ may (nxt c) .bar false ∗ may (prv c) .fin true ∗ may (nxt c) .fin false)
        ∗ each (fun k => may c k false) 0 ∗ each (fun k => may (nxt c) k false) 1 ∗ each (fun k => may c k false) 2
        ∗ each (fun k => may (nxt c) k false) 3) : sProp 𝕄) := by
  iintro H
  ihave H := unpair $$ H; icases H with ⟨HB, H⟩
  ihave HB := unpair $$ HB; icases HB with ⟨H1, HB⟩
  ihave HB := unpair $$ HB; icases HB with ⟨H2, HB⟩
  ihave HB := unpair $$ HB; icases HB with ⟨H3, H4⟩
  ihave H := unpair $$ H; icases H with ⟨D0, H⟩
  ihave H := unpair $$ H; icases H with ⟨D1, H⟩
  ihave H := unpair $$ H; icases H with ⟨D2, D3⟩
  iapply pair
  isplitl [H1 H2 H3 H4]
  · iapply pair; isplitl [H1]; · iapply (to_prev fun c => may (F := F) c .bar true); iexact H1
    iapply pair; isplitl [H2]; · iapply (to_next fun c => may (F := F) c .bar false); iexact H2
    iapply pair; isplitl [H3]; · iapply (to_prev fun c => may (F := F) c .fin true); iexact H3
    iapply (to_next fun c => may (F := F) c .fin false); iexact H4
  iapply pair; isplitl [D0]; · iexact D0
  iapply pair; isplitl [D1]; · iapply (to_next fun c => each (fun k => may (F := F) c k false) 1); iexact D1
  iapply pair; isplitl [D2]; · iexact D2
  iapply (to_next fun c => each (fun k => may (F := F) c k false) 3); iexact D3

/-! ## A device's share -/

variable (O : Dev nD → Vec F S1024x1024 .f32)

/-- What every device may consult. -/
def records (K : GSem nD τ sig → ℕ) : sProp 𝕄 :=
  iprop((bigSep allCells fun g => cellInv ER (sched O) (K g) g) ∗ bigSep Finset.univ fun c : Dev nD => reached ER (cell c .bar) 0)

instance records_persistent (K : GSem nD τ sig → ℕ) : BI.Persistent (records O K) := by unfold records; infer_instance

/-- What is handed to device `c` alone. -/
def share (c : Dev nD) : sProp 𝕄 :=
  iprop(atPos ER (cell c .bar) 0 ∅ 0
    ∗ (openTok ER (cell c .fin) ∗ each (fun k => openTok ER (cell c k)) 0 ∗ each (fun k => openTok ER (cell c k)) 1
      ∗ each (fun k => openTok ER (cell c k)) 2 ∗ each (fun k => openTok ER (cell c k)) 3)
    ∗ ((may (prv c) .bar true ∗ may (nxt c) .bar false ∗ may (prv c) .fin true ∗ may (nxt c) .fin false)
        ∗ each (fun k => may c k false) 0 ∗ each (fun k => may (nxt c) k false) 1 ∗ each (fun k => may c k false) 2
        ∗ each (fun k => may (nxt c) k false) 3)
    ∗ Pipeline.launchCred dueAll c)

theorem ready_all (c : Dev nD) (a b : Fin 4) :
    iprop(each (fun k => openTok ER (cell c k)) a ∗ each (fun k => openTok ER (cell c k)) b
      ∗ each (fun k => may c k false) a ∗ each (fun k => may (nxt c) k false) b
      ∗ (bigSep Finset.univ fun s : Fin 31 => cred (tallyAt (cell c (.dma b s)) () N)))
      ⊢ (bigSep Finset.univ fun s : Fin 31 => ready c a b s : sProp 𝕄) := by
  unfold ready
  iintro ⟨H1, H2, H3, H4, H5⟩
  iapply pair; isplitl [H1]; · iexact H1
  iapply pair; isplitl [H2]; · iexact H2
  iapply pair; isplitl [H3]; · iexact H3
  iapply pair; isplitl [H4]; · iexact H4
  iexact H5

theorem kept_intro (K : GSem nD τ sig → ℕ) (c : Dev nD) : iprop(records O K ∗ share c) ⊢ kept O c := by
  have hr (d : Dev nD) : (bigSep Finset.univ fun c : Dev nD => (reached ER (cell c .bar) 0 : sProp 𝕄)) ⊢ reached ER (cell d .bar) 0 :=
    bigSep_elim (Finset.mem_univ d)
  unfold records share kept meetIn
  iintro ⟨⟨HI, #HR⟩, Hat, ⟨Of, O0, O1, O2, O3⟩, ⟨⟨T1, T2, T3, T4⟩, D0, D1, D2, D3⟩, Hc⟩
  ihave Hc' := (credits (F := F) c) $$ Hc
  icases Hc' with ⟨Cb, Cf, C1, C3⟩
  isplitl [HI]; · iexists K; iexact HI
  isplitl [Hat Cb T1 T2]
  · isplitl [Hat]; · iexact Hat
    isplitl [Cb]; · iexact Cb
    isplitl [T1]; · iexact T1
    isplitl [T2]; · iexact T2
    isplitr; · iapply (hr (prv c)); iexact HR
    iapply (hr (nxt c)); iexact HR
  isplitl [Of Cf T3 T4]
  · isplitl [Of]; · iexact Of
    isplitl [Cf]; · iexact Cf
    isplitl [T3]; · iexact T3
    iexact T4
  isplitl [O0 O1 D0 D1 C1]
  · iapply (ready_all (F := F) c 0 1)
    isplitl [O0]; · iexact O0
    isplitl [O1]; · iexact O1
    isplitl [D0]; · iexact D0
    isplitl [D1]; · iexact D1
    iexact C1
  iapply (ready_all (F := F) c 2 3)
  isplitl [O2]; · iexact O2
  isplitl [O3]; · iexact O3
  isplitl [D2]; · iexact D2
  isplitl [D3]; · iexact D3
  iexact C3

/-- The launch: every device gets its share. -/
theorem fund :
    iprop((bigSep Finset.univ fun c : Dev nD => semVal (cell c .bar) 0)
        ∗ (bigSep Finset.univ fun c : Dev nD => Pipeline.launchCred dueAll c)
        ∗ BI.own (ER (launchOf barCells scCells tokens)))
      ⊢ (|={Set.univ}=> bigSep Finset.univ fun c : Dev nD => kept O c : sProp 𝕄) := by
  iintro ⟨Hv, Hc, Hu⟩
  imod (Rounds.fund_launch ER (sched O) disjoint_cells (fun g _ h => h) tokens) $$ [Hv Hu] with ⟨%κ, -, Hinv, Hr, Hat, Hopen, Htok⟩
  · isplitl [Hv]
    · iapply (Entails.of_eq (over_bars (F := F) fun g => semVal g 0).symm); iexact Hv
    · iexact Hu
  imodintro
  iapply (bigSep_with_persistent (S := Finset.univ) (R := records O κ) (Φ := fun c => share (F := F) c) fun c _ => kept_intro O κ c)
  isplitl [Hinv Hr]
  · unfold records
    isplitl [Hinv]; · rw [← union_cells]; iexact Hinv
    iapply (Entails.of_eq (over_bars (F := F) fun g => reached ER g 0)); iexact Hr
  unfold share
  iapply pair; isplitl [Hat]; · iapply (Entails.of_eq (over_bars (F := F) fun g => atPos ER g 0 ∅ 0)); iexact Hat
  iapply pair; isplitl [Hopen]; · iapply (Entails.of_eq (over_owns (F := F) fun g => openTok ER g)); iexact Hopen
  iapply pair; isplitl [Htok]
  · iapply (handed (F := F))
    iapply (Entails.of_eq (over_tokens (F := F))); iexact Htok
  iexact Hc

end Cert.KernelIdeal.RingSum
-- ==== Proof.Region.lean ====
/- The call as one region of @main, entered from the launch's share and left with every counter at zero. -/
module

public import proofs.«01_k».proof.Proof.Obligation
public import proofs.«01_k».proof.Proof.Fund
public import proofs.«01_k».proof.Proof.Gen.KernelIdeal.Regions
public import Idealize.ShloMosaic.Lib.Pipeline.RegionTalk

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat)

variable {F : FTy → Type} [FloatOps F] [Named F]

local notation "𝕄" => MT nD τ sig Unit (Elt F) ℕ UU ℕ

variable (W : Dev nD → Valuation τ sig (Elt F))

/-- The program's one call. -/
def pdats : (p : Fin 1) → (c : Dev nD) → Dat τ (Elt F) Unit ℕ UU ℕ (cfgs p) c := fun | 0, c => dat W c

/-- What the body starts from. -/
abbrev enters (c : Dev nD) : sProp 𝕄 := iprop((∃ K, known (part W) K) ∗ talkIn c)

/-- The scratch buffers are the scoped buffers no window stages. -/
theorem scoped_rest (c : Dev nD) : (Pipeline.scopedRest spec0 c : sProp 𝕄) = scratches c := by
  rw [scopedRest0_eq c]; rfl

theorem held_none (c : Dev nD) (V : Valuation τ sig (Elt F)) : (StableHlo.held (c.tc : Thread nD τ) ∅ V : sProp 𝕄) = BI.emp := by
  unfold StableHlo.held; exact bigSep_empty

theorem region_in (c : Dev nD) :
    iprop(Pipeline.scopedRest spec0 c ∗ (∃ r, prngReg c r) ∗ StableHlo.held (c.tc : Thread nD τ) ∅ (W c) ∗ enters W c) ⊢ atStart W c := by
  rw [scoped_rest]; unfold atStart enters
  iintro ⟨Hs, Hp, -, HK, Ht⟩
  isplitl [HK]; · iexact HK
  isplitl [Ht]; · iexact Ht
  isplitl [Hs]; · iexact Hs
  iexact Hp

theorem region_out (c : Dev nD) :
    atEnd (F := F) c ⊢ iprop(Pipeline.scopedRest spec0 c ∗ (∃ r, prngReg c r) ∗ StableHlo.held (c.tc : Thread nD τ) ∅ (leaves W c)
      ∗ Pipeline.ownSems0 osem c ∗ semVal (cell c .bar) 0) := by
  rw [scoped_rest, own_counters, held_none]; unfold atEnd talkOut
  iintro ⟨⟨Hb, Hf, H0, H1, H2, H3⟩, Hs, Hp⟩
  isplitl [Hs]; · iexact Hs
  isplitl [Hp]; · iexact Hp
  isplitr; · iempintro
  isplitr [Hb]
  · isplitl [Hf]; · iexact Hf
    isplitl [H0]; · iexact H0
    isplitl [H1]; · iexact H1
    isplitl [H2]; · iexact H2
    iexact H3
  iexact Hb

theorem leaves_rest (c : Dev nD) (b : DevRef τ sig) (hb : b ∈ (Pipeline.ucRefs τ sig \ Pipeline.arrRefs spec0) \ ∅) :
    leaves W c b = W c b := by
  rw [Finset.sdiff_empty] at hb
  refine Function.update_of_ne (fun h => (Finset.mem_sdiff.mp hb).2 ?_) _ _
  subst h
  unfold Pipeline.arrRefs
  decide +kernel

theorem owed_over (c : Dev nD) (t : Fin (cfg0.N + 1)) (g : GSem nD τ sig) (u : Unit) (h : 0 < (dat W c).owed t g u) :
    u ∈ L g ∧ 0 < lv g u := by
  have h' : 0 < (if t.val = 0 then dueAll c else 0) g u := h
  by_cases ht : t.val = 0
  · rw [if_pos ht] at h'; exact over_all c g u h'
  · rw [if_neg ht] at h'; exact absurd h' (Nat.lt_irrefl 0)

theorem stage_level : ∀ (w : Fin 6) (s : Fin ((cfg0.win w).nbuf)), kindLv (kindOf (.dma ((cfg0.win w).sem s))) ≤ 0 := by
  decide +kernel

theorem share_full (c : Dev nD) (w : Fin 6) : (dat W c).share w = fullShare := by
  fin_cases w <;> rfl

theorem opens_region (c : Dev nD) :
    iprop(kept (part W) c ∗ Pipeline.ownSems0 osem c ∗ levAts L lv) ⊢ |={Set.univ}=> enters W c := opens (O := part W) c

set_option backward.isDefEq.respectTransparency.types false in
def region : Pipeline.RegionSeg (pcfgs (F := F)) adm (pdats W) () defs₀ 𝒱₀ L lv 0 :=
  Pipeline.RegionSeg.ofTalk (pcfgs (F := F)) adm (pdats W) () defs₀ 𝒱₀ L lv 0 osem osem_facts
    ∅ (Pipeline.ucRefs τ sig \ Pipeline.arrRefs spec0) (Finset.empty_subset _) launch0.toP rfl (fun c => (body_obligation W c).loose)
    (fun _ => 0) dueAll (fun c => (owed_zero W c).trans (zero_add _).symm) (owed_last W) (fun _ => rfl) (fun c w => share_full W c w)
    W (leaves W) (leaves_rest W)
    (fun c => kept (part W) c) (fun c => semVal (cell c .bar) 0) (enters W) (fun c => semVal (cell c .bar) 0)
    (opens_region W) (region_in W) (region_out W)
    (fun c => by iintro H; imodintro; iexact H)
    (fun _ => 0)
    ⟨fun c w s => by rw [L_cell]; exact Finset.mem_singleton_self _, fun c w s => stage_level w s, fun c t g i h => owed_over W c t g i h⟩
    (fun _ => iprop(emp))
    (array_in W) (array_out W)

theorem arr_sub : Pipeline.arrRefs (τ := τ) spec0 ⊆ Pipeline.ucRefs τ sig := by
  unfold Pipeline.arrRefs Pipeline.ucRefs
  decide +kernel

/-- Before the call: the buffers, the device's share of the protocol, what it owes. -/
abbrev before (c : Dev nD) : sProp 𝕄 :=
  iprop(kept (part W) c ∗ (∃ r, prngReg c r) ∗ ∃ Wd, owes (c : Thread nD τ) (dueAll c) Wd)
/-- After it: nothing owed, the barrier's counter at zero. -/
abbrev after (c : Dev nD) : sProp 𝕄 :=
  iprop(semVal (cell c .bar) 0 ∗ ∃ Wd, owes (c : Thread nD τ) (0 : CellTallies nD τ sig Unit) Wd)

set_option backward.isDefEq.respectTransparency.types false in
theorem region_pre (c : Dev nD) : iprop(StableHlo.held (c : Thread nD τ) (Pipeline.ucRefs τ sig) (W c) ∗ before W c) ⊢ (region W).pre c := by
  show _ ⊢ iprop(StableHlo.held (c.tc : Thread nD τ) (Pipeline.arrRefs (τ := τ) spec0) (W c) ∗ (∃ r, prngReg c r)
    ∗ (StableHlo.held (c.tc : Thread nD τ) (Pipeline.ucRefs τ sig \ Pipeline.arrRefs spec0) (W c) ∗ iprop(emp)) ∗ kept (part W) c
    ∗ ∃ Wd, owes (c : Thread nD τ) (0 + dueAll c) Wd)
  rw [zero_add, StableHlo.held_sub_split (c : Thread nD τ) arr_sub (W c)]
  iintro ⟨⟨Ha, Hr⟩, Hk, Hp, Ho⟩
  isplitl [Ha]; · iexact Ha
  isplitl [Hp]; · iexact Hp
  isplitl [Hr]
  · isplitl [Hr]; · iexact Hr
    iempintro
  isplitl [Hk]; · iexact Hk
  iexact Ho

set_option backward.isDefEq.respectTransparency.types false in
theorem region_post (c : Dev nD) : (region W).post c ⊢ iprop(StableHlo.held (c : Thread nD τ) (Pipeline.ucRefs τ sig) (leaves W c) ∗ after (F := F) c) := by
  show iprop(StableHlo.held (c.tc : Thread nD τ) (Pipeline.arrRefs (τ := τ) spec0) (leaves W c) ∗ (∃ r, prngReg c r)
    ∗ (StableHlo.held (c.tc : Thread nD τ) (Pipeline.ucRefs τ sig \ Pipeline.arrRefs spec0) (leaves W c) ∗ iprop(emp)) ∗ semVal (cell c .bar) 0
    ∗ ∃ Wd, owes (c : Thread nD τ) (0 : CellTallies nD τ sig Unit) Wd) ⊢ (_ : sProp 𝕄)
  rw [StableHlo.held_sub_split (c : Thread nD τ) arr_sub (leaves W c)]
  iintro ⟨Ha, -, ⟨Hr, -⟩, Hb, Ho⟩
  isplitl [Ha Hr]
  · isplitl [Ha]; · iexact Ha
    iexact Hr
  isplitl [Hb]; · iexact Hb
  iexact Ho

end Cert.KernelIdeal.RingSum
-- ==== Proof.Run.lean ====
/- The run of the whole program: from any memory every device ends with the sum of all devices' own parts. -/
module

public import proofs.«01_k».proof.Proof.Region
public import Idealize.ShloMosaic.Adequacy
public import Idealize.ShloMosaic.Init

@[expose] public section

noncomputable section

namespace Cert.KernelIdeal.RingSum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The states between the items of @main -/

/-- What the call leaves. -/
def outs : Outs (F := F) := fun _ r c => leaves (V1 m) c (Proc.devRef .tc r)

theorem leaves_out (W : Dev nD → Valuation τ sig (Elt F)) (c : Dev nD) : leaves W c (Proc.devRef .tc main_v20) = summed W := by
  unfold leaves; exact Function.update_self _ _ _

theorem V2_eq (c : Dev nD) : V2 m (outs m) c = leaves (V1 m) c := by
  have h : outs m 2 main_v20 c = summed (V1 m) := leaves_out (V1 m) c
  unfold V2 leaves; rw [h]

/-- Beside the buffers, before the call and after it. -/
def beside : Fin 2 → Dev nD → sProp 𝕄 := fun k c => if k = 0 then before (V1 m) c else after c

theorem beside_0 (c : Dev nD) : beside m 0 c = before (V1 m) c := if_pos rfl
theorem beside_1 (c : Dev nD) : beside m 1 c = after c := if_neg (by decide)

/-! ## The launch -/

abbrev ringOwn : sProp 𝕄 := BI.own (ER (launchOf barCells scCells tokens))
/-- The protocol's records wait on device 0 until every device is dealt its share. -/
def parked (c : Dev nD) : sProp 𝕄 := if c = 0 then ringOwn else iprop(emp)
theorem parked_all : bigSep Finset.univ (parked (F := F)) = ringOwn := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def launchElt : UU :=
  (initOf (Pipeline.cells (Pipeline.pin (pcfgs (F := F)) adm) cellOf_inj) (Pipeline.launchToks (Pipeline.pin (pcfgs (F := F)) adm) cellOf_inj),
    launchOf barCells scCells tokens)

theorem only_barrier : ∀ sm : SemLoc sig, sm.isScoped .tc = false → sm = semLoc .bar := by decide

theorem unscoped_counters (c : Dev nD) : (unscopedSems0 c : sProp 𝕄) = semVal (cell c .bar) 0 := by
  unfold unscopedSems0
  rw [show (Finset.univ.filter fun sm : SemLoc sig => ¬ sm.isScoped .tc = true) = {semLoc .bar} from by decide, bigSep_singleton]

abbrev startsFrom (c : Dev nD) : sProp 𝕄 := iprop(StableHlo.held (c : Thread nD τ) (Pipeline.ucRefs τ sig) (V0 m c) ∗ beside m 0 c)
abbrev endsWith (c : Dev nD) : sProp 𝕄 :=
  iprop(StableHlo.held (c : Thread nD τ) (Pipeline.ucRefs τ sig) (V3 m (outs m) c) ∗ semVal (cell c .bar) 0)

abbrev given (c : Dev nD) : sProp 𝕄 :=
  iprop(unscopedBufs c (fun b => m ((c : Thread nD τ).loc b)) ∗ unscopedSems0 c
    ∗ owes (c : Thread nD τ) (dueAll c) ∅ ∗ Pipeline.launchCred dueAll c ∗ prngReg c (ρ c) ∗ parked c)

theorem given_split (c : Dev nD) :
    given m ρ c ⊢ iprop(StableHlo.held (c : Thread nD τ) (Pipeline.ucRefs τ sig) (V0 m c)
      ∗ ((∃ r, prngReg c r) ∗ ∃ Wd, owes (c : Thread nD τ) (dueAll c) Wd)
      ∗ semVal (cell c .bar) 0 ∗ Pipeline.launchCred dueAll c ∗ parked c) := by
  unfold given
  rw [← Pipeline.unscopedBufs_held (Ix := Unit) (Name := ℕ) (U := UU) (Lvl := ℕ) c (V0 m c), unscoped_counters]
  iintro ⟨Hh, Hs, Ho, Hc, Hp, Hk⟩
  isplitl [Hh]; · iexact Hh
  isplitl [Hp Ho]
  · isplitl [Hp]; · iexists (ρ c); iexact Hp
    iexists ∅; iexact Ho
  isplitl [Hs]; · iexact Hs
  isplitl [Hc]; · iexact Hc
  iexact Hk

theorem start_intro (c : Dev nD) :
    iprop(StableHlo.held (c : Thread nD τ) (Pipeline.ucRefs τ sig) (V0 m c)
      ∗ ((∃ r, prngReg c r) ∗ ∃ Wd, owes (c : Thread nD τ) (dueAll c) Wd) ∗ kept (part (V1 m)) c) ⊢ startsFrom m c := by
  unfold startsFrom
  rw [beside_0]
  iintro ⟨Hh, ⟨Hp, Ho⟩, Hk⟩
  isplitl [Hh]; · iexact Hh
  isplitl [Hk]; · iexact Hk
  isplitl [Hp]; · iexact Hp
  iexact Ho

theorem all_given : (bigSep Finset.univ fun c => given m ρ c)
    ⊢ (bigSep Finset.univ fun c : Dev nD => iprop(StableHlo.held (c : Thread nD τ) (Pipeline.ucRefs τ sig) (V0 m c)
      ∗ ((∃ r, prngReg c r) ∗ ∃ Wd, owes (c : Thread nD τ) (dueAll c) Wd)
      ∗ semVal (cell c .bar) 0 ∗ Pipeline.launchCred dueAll c ∗ parked c) : sProp 𝕄) := bigSep_mono fun c _ => given_split m ρ c

theorem init : iprop((bigSep Finset.univ fun c => given m ρ c) ∗ levAts L lv) ⊢ (|={Set.univ}=> bigSep Finset.univ (startsFrom m) : sProp 𝕄) := by
  iintro ⟨H, -⟩
  ihave H := (all_given m ρ) $$ H
  ihave H := unpair $$ H; icases H with ⟨Hh, H⟩
  ihave H := unpair $$ H; icases H with ⟨Hr, H⟩
  ihave H := unpair $$ H; icases H with ⟨Hs, H⟩
  ihave H := unpair $$ H; icases H with ⟨Hc, Hk⟩
  imod (fund (part (V1 m))) $$ [Hs Hc Hk] with HK
  · isplitl [Hs]; · iexact Hs
    isplitl [Hc]; · iexact Hc
    iapply (Entails.of_eq (parked_all (F := F))); iexact Hk
  imodintro
  iapply (show (bigSep Finset.univ fun c : Dev nD => iprop(StableHlo.held (c : Thread nD τ) (Pipeline.ucRefs τ sig) (V0 m c)
      ∗ ((∃ r, prngReg c r) ∗ ∃ Wd, owes (c : Thread nD τ) (dueAll c) Wd) ∗ kept (part (V1 m)) c))
    ⊢ (bigSep Finset.univ (startsFrom m) : sProp 𝕄) from bigSep_mono fun c _ => start_intro m c)
  iapply pair; isplitl [Hh]; · iexact Hh
  iapply pair; isplitl [Hr]; · iexact Hr
  iexact HK

/-! ## The run -/

/-- The result buffer at the end, on every device. -/
def resultVal : main_v21.ty.Contents (Elt F) := broadcastInDim S1x1024x1024 ![1, 2] bcast_S1024x1024_S1x1024x1024_1_2 (summed (V1 m))

theorem after_last (V : Valuation τ sig (Elt F)) :
    StableHlo.after hostOps1 V (Proc.devRef .tc main_v21)
      = broadcastInDim S1x1024x1024 ![1, 2] bcast_S1024x1024_S1x1024x1024_1_2 (V (Proc.devRef .tc main_v20)) := by
  unfold hostOps1
  rw [StableHlo.after_cons, StableHlo.after_nil, StableHlo.unary_result]

theorem V3_result (c : Dev nD) : V3 m (outs m) c main_v21 = resultVal m :=
  (after_last _).trans (congrArg _ ((congrFun (V2_eq m c) _).trans (leaves_out (V1 m) c)))

/-- What is read at the end on device `c`. -/
def ended (c : Dev nD) (s : MemSt nD τ sig (Elt F)) : Prop :=
  (∀ b ∈ Pipeline.ucRefs τ sig, s.mem (c, b) = V3 m (outs m) c b) ∧ s.sem (cell c .bar) = 0

theorem uc_mem (r : Ref sig .tc) (h : ¬ (Proc.devRef (τ := τ) .tc r).isScoped = true) : Proc.devRef (τ := τ) .tc r ∈ Pipeline.ucRefs τ sig :=
  Finset.mem_filter.mpr ⟨StableHlo.devRef_mem_tcRefs r, h⟩

set_option backward.isDefEq.respectTransparency.types false in
theorem run_ends :
    θ_run defs (onTc (τ := τ) (main (F := F))) ⟨m, fun _ => 0, ρ⟩ (fun r => (∀ c, ended m c r.2) ∧ r.2.sem = fun _ => 0) := by
  refine Pipeline.θ_run_regions_kit_dev_sems (pcfgs (F := F)) adm (pdats (V1 m)) () cellOf_inj EP defs₀ 𝒱₀ L lv m ρ main
    (segs m (outs m) 𝒱₀ L lv (beside m) () (pdats (V1 m)) (region (V1 m)))
    (fun c Q => by
      rewrite [main_chain c, Seg.run_eq_chain,
        show (segs m (outs m) 𝒱₀ L lv (beside m) () (pdats (V1 m)) (region (V1 m)) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    dueAll L_of_ne parked launchElt
    (by
      unfold launchElt
      iintro Hu
      ihave H := (ownU_pair _ _) $$ Hu
      icases H with ⟨HP, HX⟩
      imodintro
      isplitl [HP]; · iexact HP
      rw [parked_all]; iexact HX)
    (startsFrom m) (endsWith m)
    (fun c => ⟨.rfl, ?_, ?_, ?_⟩) (init m ρ) (ended m) (fun c s' => ?_) (fun s h hs => ⟨h, ?_⟩)
  · show iprop(StableHlo.held (c : Thread nD τ) (Pipeline.ucRefs τ sig) (V1 m c) ∗ beside m 0 c) ⊢ _
    rw [beside_0]; exact region_pre (V1 m) c
  · show _ ⊢ iprop(StableHlo.held (c : Thread nD τ) (Pipeline.ucRefs τ sig) (V2 m (outs m) c) ∗ beside m 1 c)
    rw [beside_1, V2_eq]; exact region_post (V1 m) c
  · show iprop(StableHlo.held (c : Thread nD τ) (Pipeline.ucRefs τ sig) (V3 m (outs m) c) ∗ beside m 1 c) ⊢ _
    rw [beside_1]
    unfold endsWith
    iintro ⟨Hh, Hb, Ho⟩
    isplitl [Hh Hb]
    · isplitl [Hh]; · iexact Hh
      iexact Hb
    iexact Ho
  · unfold endsWith StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    · iexact HSI
  · exact sem_eq_zero hs fun c sm hsm => by
      obtain rfl := only_barrier sm hsm
      exact (h c).2

/-- From any memory the program ends with its arguments as they were, the sum on every device, and every counter at zero. -/
theorem run_main :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v21) = resultVal m) ∧ r.2.sem = fun _ => 0) :=
  (θ_run defs _ _).mono (fun r h => ⟨fun c => ⟨⟨
    ((h.1 c).1 _ (uc_mem main_arg0 (by decide))).trans (V3_main_arg0 m (outs m) c),
    ((h.1 c).1 _ (uc_mem main_arg1 (by decide))).trans (V3_main_arg1 m (outs m) c),
    ((h.1 c).1 _ (uc_mem main_arg2 (by decide))).trans (V3_main_arg2 m (outs m) c),
    ((h.1 c).1 _ (uc_mem main_arg3 (by decide))).trans (V3_main_arg3 m (outs m) c),
    ((h.1 c).1 _ (uc_mem main_arg4 (by decide))).trans (V3_main_arg4 m (outs m) c)⟩,
    ((h.1 c).1 _ (uc_mem main_v21 (by decide))).trans (V3_result m c)⟩, h.2⟩) (run_ends m ρ)

end Cert.KernelIdeal.RingSum
-- ==== Proof.Frames.lean ====
/- The frames. The printed kernel is the same text as the idealized one with the mask's word for the named constant,
   so one run serves both; the reference runs on one device and declares no semaphore. -/
module

public import proofs.«01_k».proof.Defs
public import proofs.«01_k».proof.Proof.Gen.Kernel
public import proofs.«01_k».proof.Proof.Gen.ReferenceIdeal.Run
public import proofs.«01_k».proof.Proof.Run
public import Idealize.ShloMosaic.PureOps.IdealRules

@[expose] public section

noncomputable section

namespace Cert.Proof

open Idealize.ShloMosaic Idealize.SL.Sem

/-- At the machine's floats a named constant is the word it was printed as. -/
instance wordNamed : Named Bits where
  named _ _ {φ} b := Scalar.ofBits φ b

/-- The two printed bodies are one text. -/
theorem same_body : @Cert.Kernel.cc0_body Bits _ _ = @Cert.KernelIdeal.cc0_body Bits _ _ _ := rfl

theorem same_calls : @Cert.Kernel.defs₀ Bits _ _ = @Cert.KernelIdeal.defs₀ Bits _ _ _ := by
  unfold Cert.Kernel.defs₀ Cert.KernelIdeal.defs₀
  refine congrArg Defs.onTc (funext fun l => funext fun x => ?_)
  match l, x with
  | ⟨0, _⟩, (t, s) => rfl

theorem same_defs : Cert.Kernel.defs (F := Bits) = Cert.KernelIdeal.defs (F := Bits) :=
  congrArg (Pipeline.defs (Cert.KernelIdeal.pcfgs (F := Bits))) same_calls

theorem frame_kernel : Cert.quiescent_Kernel := fun m ρ _ => by
  have h := Cert.KernelIdeal.RingSum.run_main (F := Bits) m ρ
  rw [← same_defs] at h
  exact (θ_run Cert.Kernel.defs _ _).mono (fun _ h => ⟨fun c => (h.1 c).1, h.2⟩) h

theorem frame_kernel_ideal : Cert.quiescent_KernelIdeal := fun m ρ _ =>
  (θ_run Cert.KernelIdeal.defs _ _).mono (fun _ h => ⟨fun c => (h.1 c).1, h.2⟩) (Cert.KernelIdeal.RingSum.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite: the mask's value is the named `-∞`. -/
theorem preserves : Cert.preserves_Kernel_KernelIdeal :=
  IdealRules.named_const.statement Cert.KernelIdeal.κ "mask" .f32 0xCE6E6B28#32 ⊥ rfl

end Cert.Proof
-- ==== Proof.Inputs.lean ====
/- What the host code hands the kernel on device `c`: the input's rows, the columns of the query weights and the rows of the
   output weights that belong to the device's eight heads, and the device's keys and values, head by head. -/
module

public import proofs.«01_k».proof.Proof.Run
public import Idealize.ShloMosaic.Lib.Pointwise
public import Idealize.ShloMosaic.Lib.StableHlo.ReadAt

@[expose] public section

noncomputable section

namespace Cert.KernelIdeal.RingSum

open Idealize.ShloMosaic
open Idealize.ShloMosaic.StableHlo
open Cert.KernelIdeal.Gen

set_option maxRecDepth 16384

/-! ## Where the device's columns begin -/

/-- A device's place on the mesh, as the host code computes it. -/
def place (c : Dev nD) : IVec S_ 32 :=
  Host.remui (Host.divui (constantI S_ 32 (Dev.word c)) (constantI S_ 32 1#32)) (constantI S_ 32 32#32)

/-- Where the device's columns begin, as the host code computes it. -/
def start (c : Dev nD) : IVec S_ 32 :=
  select (cmpi .slt (muli (place c) (constantI S_ 32 1024#32)) (constantI S_ 32 0#32))
    (addi (muli (place c) (constantI S_ 32 1024#32)) (constantI S_ 32 32768#32)) (muli (place c) (constantI S_ 32 1024#32))

/-- It is 1024 times the device's number. -/
theorem start_val : ∀ c : Dev nD, (start c (Shape.Idx.first h_S_)).toInt = 1024 * (c.val : ℤ) := by decide

/-- The device's columns lie among all columns. -/
theorem ownCol_lt (c : Dev nD) (n : Fin 1024) : 1024 * c.val + n.val < 32768 := by have := dev_lt c; have := n.isLt; omega

/-- A word read as a corner's coordinate. -/
abbrev coord (f : IVec S_ 32) : ℤ := (f (Shape.Idx.first h_S_)).toInt

variable (m : (ℓ : Loc nD τ sig) → Buf (Elt Ideal) ℓ) (c : Dev nD)

/-- The query weights' slice begins at that column, -/
theorem start_q : upto (hostOps0 c) (V0 m c) 15 (Proc.tc.devRef main_v9) = start c := by
  after_reads_simp
  rfl

/-- and at row 0; -/
theorem zero_q : upto (hostOps0 c) (V0 m c) 15 (Proc.tc.devRef main_c_4) = constantI S_ 32 0#32 := by
  after_reads_simp

/-- the output weights' slice begins at that row, -/
theorem start_o : upto (hostOps0 c) (V0 m c) 28 (Proc.tc.devRef main_v18) = start c := by
  after_reads_simp
  rfl

/-- and at column 0. -/
theorem zero_o : upto (hostOps0 c) (V0 m c) 28 (Proc.tc.devRef main_c_8) = constantI S_ 32 0#32 := by
  after_reads_simp

/-! ## The operands -/

/-- The input's rows. -/
theorem inX_apply (i x : Fin 1024) : inX (V1 m) c (ix2 i x) = m ((c.tc : Thread nD τ).loc main_arg0) (ix3 0 i x) := by
  unfold inX V1
  after_reads_at

/-- The device's keys, head by head. -/
theorem inK_apply (h : Fin 8) (j : Fin 1024) (d : Fin 128) :
    inK (V1 m) c (ix3 h j d) = m ((c.tc : Thread nD τ).loc main_arg2) (ix4 0 j h d) := by
  unfold inK V1
  after_reads_at

/-- The device's values, head by head. -/
theorem inV_apply (h : Fin 8) (j : Fin 1024) (d : Fin 128) :
    inV (V1 m) c (ix3 h j d) = m ((c.tc : Thread nD τ).loc main_arg3) (ix4 0 j h d) := by
  unfold inV V1
  after_reads_at

/-- The slice of the query weights, with its corner as numbers. -/
theorem inWq_eq : inWq (V1 m) c = Host.dynamicSlice S1024x1024 (V0 m c (Proc.tc.devRef main_arg1))
    (fun k => if k = 0 then 0 else 1024 * (c.val : ℤ)) sliceFits_S1024x32768_S1024x1024 := by
  unfold inWq V1
  after_reads_simp
  refine congrArg (fun s => Host.dynamicSlice S1024x1024 (V0 m c (Proc.tc.devRef main_arg1)) s sliceFits_S1024x32768_S1024x1024)
    (funext fun k => ?_)
  match k with
  | 0 => exact (congrArg coord (zero_q m c)).trans rfl
  | 1 => exact (congrArg coord (start_q m c)).trans (start_val c)

/-- The device's columns of the query weights. -/
theorem inWq_apply (x n : Fin 1024) :
    inWq (V1 m) c (ix2 x n) = m ((c.tc : Thread nD τ).loc main_arg1) (ix2 x ⟨1024 * c.val + n.val, ownCol_lt c n⟩) := by
  rw [inWq_eq]
  pointwise
  have := dev_lt c
  refine congrArg (V0 m c (Proc.tc.devRef main_arg1)) (congrArg₂ ix2 (Fin.ext ?_) (Fin.ext ?_))
  · show _ + x.val = x.val
    rw [Host.clampedStart_of_le _ _ _ 0 rfl (by decide), Nat.zero_add]
  · show _ + n.val = _
    rw [Host.clampedStart_of_le _ _ _ (1024 * c.val) (if_neg (by decide)) (by show 1024 * c.val + 1024 ≤ 32768; omega)]

/-- The slice of the output weights, with its corner as numbers. -/
theorem inWo_eq : inWo (V1 m) c = Host.dynamicSlice S1024x1024 (V0 m c (Proc.tc.devRef main_arg4))
    (fun k => if k = 0 then 1024 * (c.val : ℤ) else 0) sliceFits_S32768x1024_S1024x1024 := by
  unfold inWo V1
  after_reads_simp
  refine congrArg (fun s => Host.dynamicSlice S1024x1024 (V0 m c (Proc.tc.devRef main_arg4)) s sliceFits_S32768x1024_S1024x1024)
    (funext fun k => ?_)
  match k with
  | 0 => exact (congrArg coord (start_o m c)).trans (start_val c)
  | 1 => exact (congrArg coord (zero_o m c)).trans rfl

/-- The device's rows of the output weights. -/
theorem inWo_apply (n j : Fin 1024) :
    inWo (V1 m) c (ix2 n j) = m ((c.tc : Thread nD τ).loc main_arg4) (ix2 ⟨1024 * c.val + n.val, ownCol_lt c n⟩ j) := by
  rw [inWo_eq]
  pointwise
  have := dev_lt c
  refine congrArg (V0 m c (Proc.tc.devRef main_arg4)) (congrArg₂ ix2 (Fin.ext ?_) (Fin.ext ?_))
  · show _ + n.val = _
    rw [Host.clampedStart_of_le _ _ _ (1024 * c.val) (if_pos rfl) (by show 1024 * c.val + 1024 ≤ 32768; omega)]
  · show _ + j.val = j.val
    rw [Host.clampedStart_of_le _ _ _ 0 rfl (by decide), Nat.zero_add]

end Cert.KernelIdeal.RingSum

end
-- ==== Proof.Attention.lean ====
/- The mathematics that both programs compute: attention of one head under a block mask, over the extended reals. -/
module

public import Idealize.ShloMosaic.Lib.Pointwise

@[expose] public section

noncomputable section

namespace Cert.Attention

open Idealize.ShloMosaic

/-- Query `i` sees key `j`: they are in one block of 64, or the key is in the first block, or the sum of the two blocks'
    numbers is divisible by three. -/
def Sees (i j : Fin 1024) : Prop :=
  i.val / 64 = j.val / 64 ∨ j.val / 64 = 0 ∨ (i.val / 64 + j.val / 64) % 3 = 0

instance (i j : Fin 1024) : Decidable (Sees i j) := by unfold Sees; infer_instance

/-- Every query sees the first key. -/
theorem sees_first (i : Fin 1024) : Sees i 0 := Or.inr (Or.inl rfl)

/-- The factor of the scores, 1/√128 rounded to a float. -/
def scale : EReal := Ideal.ofBits .f32 0x3DB504F3#32

/-- A query's score of a key: their scaled inner product, or −∞ if the query does not see the key. -/
def score (q k : Fin 1024 → Fin 128 → EReal) (i j : Fin 1024) : EReal :=
  if Sees i j then (∑ x, q i x * k j x) * scale else ⊥

/-- A row of scores exponentiated, less the row's maximum. -/
def expRow (s : Fin 1024 → EReal) (j : Fin 1024) : EReal := Ideal.exp (s j - Finset.fold max ⊥ s Finset.univ)

/-- The weights of the keys: a row's exponentials, divided by their sum. -/
def weight (s : Fin 1024 → EReal) (j : Fin 1024) : EReal := Ideal.div (expRow s j) (∑ x, expRow s x)

/-- One head's attention. -/
def head (q k v : Fin 1024 → Fin 128 → EReal) (i : Fin 1024) (d : Fin 128) : EReal :=
  ∑ j, weight (score q k i) j * v j d

/-- The float word of −∞. -/
theorem word_bot : Ideal.ofBits .f32 0xFF800000#32 = ⊥ := by simp [Ideal.ofBits, Ideal.ieee]

/-- A score with a bias added, 0 where the query sees the key and −∞ where not. -/
theorem score_bias (q k : Fin 1024 → Fin 128 → EReal) (i j : Fin 1024) :
    (∑ x, q i x * k j x) * scale + (if Sees i j then 0 else ⊥) = score q k i j := by
  unfold score
  by_cases h : Sees i j
  · rw [if_pos h, if_pos h, add_zero]
  · rw [if_neg h, if_neg h, EReal.add_bot]

/-- The mask's bit, from the two blocks' numbers. -/
theorem sees_iff (i j : Fin 1024) (a b : Fin 16) (ha : a.val = i.val / 64) (hb : b.val = j.val / 64) :
    Sees i j ↔ a.val = b.val ∨ b.val = 0 ∨ (a.val + b.val) % 3 = 0 := by rw [ha, hb]; rfl

/-- The block that a position lies in. -/
def blockOf (i : Fin 1024) : Fin 16 := ⟨i.val / 64, by have := i.isLt; omega⟩

/-- A sum over all the columns is the sum over the devices of the sums over their columns. -/
theorem sum_devices (f : Fin 32768 → EReal) :
    ∑ n, f n = ∑ c : Fin 32, ∑ n : Fin 1024, f ⟨1024 * c.val + n.val, by have := c.isLt; have := n.isLt; omega⟩ := by
  rw [← Finset.sum_product', Finset.univ_product_univ]
  refine (Fintype.sum_equiv (finProdFinEquiv (m := 32) (n := 1024)) _ _ fun p => ?_).symm
  refine congrArg f (Fin.ext ?_)
  show 1024 * p.1.val + p.2.val = p.2.val + 1024 * p.1.val
  omega

end Cert.Attention

end
-- ==== Proof.KerValue.lean ====
/- The kernel's values at an index: the mask's bias, a head's attention, a device's own part, and the sum round the ring. -/
module

public import proofs.«01_k».proof.Proof.Obligation
public import proofs.«01_k».proof.Proof.Attention

@[expose] public section

noncomputable section

namespace Cert.KernelIdeal.RingSum

open Idealize.ShloMosaic Cert.Attention
open Cert.KernelIdeal.Gen

set_option maxRecDepth 16384

/-! ## The mask -/

/-- The block of a query, as the kernel computes it. -/
theorem rowBlock_apply (i j : Fin 1024) :
    k0_pay5 (iota .tc S1024x1024 32 [0] iota_S1024x1024_d0_w32) 64#32 k0_pay2 k0_pay3 k0_pay4 (ix2 i j)
      = BitVec.ofNat 32 (blockOf i).val := by
  pointwise [k0_pay5, k0_pay2, k0_pay3, k0_pay4]
  show _ = BitVec.ofNat 32 (i.val / 64)
  revert i
  decide

/-- The block of a key, as the kernel computes it. -/
theorem colBlock_apply (i j : Fin 1024) : k0_pay6 (ix2 i j) = BitVec.ofNat 32 (blockOf j).val := by
  pointwise [k0_pay6]
  show _ = BitVec.ofNat 32 (j.val / 64)
  revert j
  decide

/-- The mask's bit, computed from the two blocks' words. -/
def maskBit (u v : BitVec 32) : BitVec 1 :=
  IntOp.ori (IntOp.ori (IntOp.cmpi .eq u v) (IntOp.cmpi .eq v 0#32)) (IntOp.cmpi .eq (IntOp.remsi .vector (IntOp.addi u v) 3#32) 0#32)

/-- The mask's bit of two blocks: the same block, the first one, or numbers whose sum is divisible by three. -/
theorem maskBit_blocks : ∀ a b : Fin 16, maskBit (BitVec.ofNat 32 a.val) (BitVec.ofNat 32 b.val)
    = BitVec.ofBool (decide (a.val = b.val ∨ b.val = 0 ∨ (a.val + b.val) % 3 = 0)) := by decide

/-- The bias is 0 where the query sees the key, and −∞ elsewhere. -/
theorem biasVal_apply (i j : Fin 1024) : biasVal (F := Ideal) (ix2 i j) = if Sees i j then (0 : EReal) else ⊥ := by
  have h : biasVal (F := Ideal) (ix2 i j)
      = Scalar.select (maskBit (BitVec.ofNat 32 (blockOf i).val) (BitVec.ofNat 32 (blockOf j).val)) (0 : EReal) ⊥ := by
    pointwise [biasVal, k0_pay9, k0_pay8, k0_pay7]
    rw [rowBlock_apply, colBlock_apply]
    rfl
  rw [h, maskBit_blocks, Scalar.select_decide]
  exact if_congr (sees_iff i j (blockOf i) (blockOf j) rfl rfl).symm rfl rfl

/-! ## One device -/

/-- The device's queries: the input's row times a column of its query weights. -/
theorem qVal_apply (X WQ : Vec Ideal S1024x1024 .bf16) (i n : Fin 1024) :
    qVal X WQ (ix2 i n) = ∑ x, X (ix2 i x) * WQ (ix2 x n) := by
  unfold qVal
  pointwise [k0_pay1]

/-- One head's payload is its attention. -/
theorem headPay_apply (Q : Vec Ideal S1024x128 .bf16) (K V : Vec Ideal S1x1024x128 .bf16) (i : Fin 1024) (d : Fin 128) :
    k0_pay10 (F := Ideal) Q K (biasVal (F := Ideal)) V (ix2 i d)
      = head (fun i d => Q (ix2 i d)) (fun j d => K (ix3 0 j d)) (fun j d => V (ix3 0 j d)) i d := by
  pointwise [k0_pay10]
  simp only [biasVal_apply, word_bot]
  simp only [← scale.eq_1]
  simp only [score_bias (fun i d => Q (ix2 i d)) (fun j d => K (ix3 0 j d))]
  rfl

/-- A head's columns lie among the device's. -/
theorem headCol_lt (h : Fin 8) (d : Fin 128) : 128 * h.val + d.val < 1024 := by have := h.isLt; have := d.isLt; omega

/-- One head's attention, from the device's operands. -/
theorem headVal_apply (X WQ : Vec Ideal S1024x1024 .bf16) (KK VV : Vec Ideal S8x1024x128 .bf16) (h : Fin 8) (i : Fin 1024) (d : Fin 128) :
    headVal X WQ KK VV h (ix2 i d)
      = head (fun i d => ∑ x, X (ix2 i x) * WQ (ix2 x ⟨128 * h.val + d.val, headCol_lt h d⟩))
          (fun j d => KK (ix3 h j d)) (fun j d => VV (ix3 h j d)) i d := by
  have hq : ∀ (i : Fin 1024) (d : Fin 128), qVal X WQ ((headRect h).emb (ix2 i d))
      = ∑ x, X (ix2 i x) * WQ (ix2 x ⟨128 * h.val + d.val, headCol_lt h d⟩) := fun i d => by
    rw [← qVal_apply, headRect_emb]
    refine congrArg (qVal X WQ) (funext fun a => ?_)
    match a with
    | 0 => rfl
    | 1 => rfl
  have hk : ∀ (j : Fin 1024) (d : Fin 128), (kvRect h).emb (ix3 0 j d) = ix3 h j d := fun j d => by
    funext a
    match a with
    | 0 => exact Fin.ext (show h.val + 1 * 0 = h.val by omega)
    | 1 => exact Fin.ext (show 0 + 1 * j.val = j.val by omega)
    | 2 => exact Fin.ext (show 0 + 1 * d.val = d.val by omega)
  unfold headVal
  rw [headPay_apply]
  simp only [hq, hk]

/-- The device's own part: over its columns, the heads' attention times the output weights. -/
theorem ownVal_apply (X WQ : Vec Ideal S1024x1024 .bf16) (KK VV : Vec Ideal S8x1024x128 .bf16) (WO : Vec Ideal S1024x1024 .bf16)
    (i j : Fin 1024) :
    ownVal X WQ KK VV WO (ix2 i j)
      = ∑ n : Fin 1024, headVal X WQ KK VV ⟨n.val / 128, by have := n.isLt; omega⟩ (ix2 i ⟨n.val % 128, Nat.mod_lt _ (by decide)⟩)
          * WO (ix2 n j) := by
  unfold ownVal
  pointwise [k0_pay24]
  refine Finset.sum_congr rfl fun n _ => congrArg (· * _) ?_
  unfold ctxVal
  refine congrArg (headVal X WQ KK VV _) (funext fun a => ?_)
  match a with
  | 0 => rfl
  | 1 => rfl

/-! ## The ring -/

/-- The devices that contribute to a partial sum: the last of them, and those behind it on the ring. -/
theorem acc_apply (O : Dev nD → Vec Ideal S1024x1024 .f32) (y : S32x1024.Idx) : ∀ (s : ℕ) (_ : s < 32) (c : Dev nD),
    acc O s c y = ∑ i ∈ Finset.range (s + 1), (O (prv^[i] c) ((chunkRect (rb c s)).emb y) : EReal)
  | 0, _, c => by
    rw [Finset.sum_range_one]
    rfl
  | s + 1, hs, c => by
    rw [Finset.sum_range_succ']
    have ih := acc_apply O y s (by omega) (prv c)
    rw [rb_prv c (by omega)] at ih
    have e : acc O (s + 1) c y = (O c ((chunkRect (rb c (s + 1))).emb y) : EReal) + acc O s (prv c) y := rfl
    rw [e, ih, add_comm]
    rfl

/-- Going round the ring meets every device once. -/
theorem sum_ring (f : Dev nD → EReal) (c : Dev nD) : ∑ i ∈ Finset.range 32, f (prv^[i] c) = ∑ d : Dev nD, f d := by
  rw [Finset.sum_range]
  have hinj : Function.Injective fun i : Fin 32 => (prv^[i.val] c : Dev nD) := fun a b h => by
    have h' := congrArg (fun d : Dev nD => d.val) h
    simp only [prv_iterate] at h'
    exact Fin.ext (by have := a.isLt; have := b.isLt; have := dev_lt c; omega)
  exact Fintype.sum_bijective (fun i : Fin 32 => (prv^[i.val] c : Dev nD)) (Finite.injective_iff_bijective.mp hinj) _ _ fun _ => rfl

/-- The result is the sum of all devices' parts. -/
theorem result_apply (O : Dev nD → Vec Ideal S1024x1024 .f32) (x : S1024x1024.Idx) :
    result O x = ∑ c : Dev nD, (O c x : EReal) := by
  have hx : (x 0).val < 1024 := (x 0).isLt
  unfold result total
  rw [acc_apply O _ 31 (by decide), sum_ring (fun d => O d _)]
  refine Finset.sum_congr rfl fun c _ => congrArg (O c) (funext fun a => ?_)
  match a with
  | 0 =>
    refine Fin.ext ?_
    show 32 * ((((x 0).val / 32 + 31) % 32 + 64 - 31) % 32) + 1 * ((x 0).val % 32) = (x 0).val
    omega
  | 1 => exact Fin.ext (show 0 + 1 * (x 1).val = (x 1).val by omega)

end Cert.KernelIdeal.RingSum

end
-- ==== Proof.Stages.lean ====
/- The reference's result, read off its run in stages: the mask, the scores, the weights of the keys, the heads' attention
   side by side, and the projection. -/
module

public import proofs.«01_k».proof.Proof.Gen.ReferenceIdeal.Run
public import Idealize.ShloMosaic.Lib.Pointwise

@[expose] public section

noncomputable section

namespace Cert.ReferenceIdeal.Stages

open Idealize.ShloMosaic
open Cert.ReferenceIdeal.Gen

/-- Each position's block of 64. -/
def blockIds : IVec S1024 32 :=
  select (andi (cmpi .ne (signi (iotaInDim S1024 32 0)) (broadcastInDim S1024 ![] bcast_S_S1024 (signi (id
    (constantI S_ 32 64#32))))) (cmpi .ne (Host.remsi (iotaInDim S1024 32 0) (broadcastInDim S1024 ![] bcast_S_S1024 (id
    (constantI S_ 32 64#32)))) (broadcastInDim S1024 ![] bcast_S_S1024 (constantI S_ 32 0#32)))) (subi (Host.divsi
    (iotaInDim S1024 32 0) (broadcastInDim S1024 ![] bcast_S_S1024 (id (constantI S_ 32 64#32))))
    (broadcastInDim S1024 ![] bcast_S_S1024 (constantI S_ 32 1#32))) (Host.divsi (iotaInDim S1024 32 0)
    (broadcastInDim S1024 ![] bcast_S_S1024 (id (constantI S_ 32 64#32))))

/-- The divisor 3. -/
def three : IVec S_ 32 :=
  select (cmpi .eq (id (constantI S_ 32 3#32)) (constantI S_ 32 0#32)) (constantI S_ 32 1#32) (id (constantI S_ 32 3#32))

/-- The sum of a query's block and a key's. -/
def blockSum : IVec S1024x1024 32 :=
  addi (broadcastInDim S1024x1024 ![0, 1] bcast_S1024x1_S1024x1024_0_1
    (broadcastInDim S1024x1 ![0] bcast_S1024_S1024x1_0 blockIds))
    (broadcastInDim S1024x1024 ![0, 1] bcast_S1x1024_S1024x1024_0_1
    (broadcastInDim S1x1024 ![1] bcast_S1024_S1x1024_1 blockIds))

/-- Which key a query sees. -/
def mask : IVec S1024x1024 1 :=
  ori (ori (cmpi .eq (broadcastInDim S1024x1024 ![0, 1] bcast_S1024x1_S1024x1024_0_1
    (broadcastInDim S1024x1 ![0] bcast_S1024_S1024x1_0 blockIds))
    (broadcastInDim S1024x1024 ![0, 1] bcast_S1x1024_S1024x1024_0_1
    (broadcastInDim S1x1024 ![1] bcast_S1024_S1x1024_1 blockIds)))
    (broadcastInDim S1024x1024 ![0, 1] bcast_S1x1024_S1024x1024_0_1 (cmpi .eq
    (broadcastInDim S1x1024 ![1] bcast_S1024_S1x1024_1 blockIds) (broadcastInDim S1x1024 ![] bcast_S_S1x1024
    (constantI S_ 32 0#32))))) (cmpi .eq (select (andi (cmpi .ne (cmpi .slt (Host.remsi blockSum
    (broadcastInDim S1024x1024 ![] bcast_S_S1024x1024 three)) (broadcastInDim S1024x1024 ![] bcast_S_S1024x1024
    (constantI S_ 32 0#32))) (broadcastInDim S1024x1024 ![] bcast_S_S1024x1024 (cmpi .slt three (constantI S_ 32 0#32))))
    (cmpi .ne (Host.remsi blockSum (broadcastInDim S1024x1024 ![] bcast_S_S1024x1024 three))
    (broadcastInDim S1024x1024 ![] bcast_S_S1024x1024 (constantI S_ 32 0#32)))) (addi (Host.remsi blockSum
    (broadcastInDim S1024x1024 ![] bcast_S_S1024x1024 three)) (broadcastInDim S1024x1024 ![] bcast_S_S1024x1024 three))
    (Host.remsi blockSum (broadcastInDim S1024x1024 ![] bcast_S_S1024x1024 three)))
    (broadcastInDim S1024x1024 ![] bcast_S_S1024x1024 (constantI S_ 32 0#32)))

/-- Whether a query sees any key. -/
def anyKey : IVec S1024 1 :=
  Host.reduce IntOp.ori mask (constantI S_ 1 0#1) reducesTo_S1024x1024_S1024_d1 h_S_

/-- The queries, head by head. -/
def queries (X : FVec Ideal S1x1024x1024 .bf16) (WQ : FVec Ideal S1024x32768 .bf16) : FVec Ideal S1x1024x256x128 .bf16 :=
  shapeCast _ (truncf .bf16
    (Host.dotGeneral dot_S1x1024x1024_S1024x32768_S1x1024x32768_2_0_01_1_n_n none X WQ) bitsLt_bf16_f32) shapeCasts_S1x1024x32768_S1x1024x256x128

/-- The masked scores. -/
def scores (Q K : FVec Ideal S1x1024x256x128 .bf16) : FVec Ideal S1x256x1024x1024 .f32 :=
  select (broadcastInDim S1x256x1024x1024 ![0, 1, 2, 3] bcast_S1x1x1024x1024_S1x256x1024x1024_0_1_2_3
    (broadcastInDim S1x1x1024x1024 ![2, 3] bcast_S1024x1024_S1x1x1024x1024_2_3 mask)) (mulf (extf .f32 (truncf .bf16
    (Host.dotGeneral dot_S1x1024x256x128_S1x1024x256x128_S1x256x1024x1024_3_3_1_1_02_02 none Q K) bitsLt_bf16_f32) bitsLt_bf16_f32)
    (broadcastInDim S1x256x1024x1024 ![] bcast_S_S1x256x1024x1024 (constant S_ .f32 0x3DB504F3#32)))
    (broadcastInDim S1x256x1024x1024 ![] bcast_S_S1x256x1024x1024 (id (constant S_ .f32 0xFF800000#32)))

/-- The exponentials of the scores, each row less its maximum. -/
def expo (SC : FVec Ideal S1x256x1024x1024 .f32) : FVec Ideal S1x256x1024x1024 .f32 :=
  Host.exp (subf SC (broadcastInDim S1x256x1024x1024 ![0, 1, 2, 3] bcast_S1x256x1024x1_S1x256x1024x1024_0_1_2_3
    (broadcastInDim S1x256x1024x1 ![0, 1, 2] bcast_S1x256x1024_S1x256x1024x1_0_1_2 (Host.reduce FloatOps.maximumf SC
    (constant S_ .f32 0xFF800000#32) reducesTo_S1x256x1024x1024_S1x256x1024_d3 h_S_))))

/-- The weights of the keys. -/
def weights (EX : FVec Ideal S1x256x1024x1024 .f32) : FVec Ideal S1x256x1024x1024 .f32 :=
  select (broadcastInDim S1x256x1024x1024 ![0, 1, 2, 3] bcast_S1x1x1024x1_S1x256x1024x1024_0_1_2_3
    (broadcastInDim S1x1x1024x1 ![2] bcast_S1024_S1x1x1024x1_2 anyKey)) (Host.divf EX
    (broadcastInDim S1x256x1024x1024 ![0, 1, 2, 3] bcast_S1x256x1024x1_S1x256x1024x1024_0_1_2_3 (select
    (broadcastInDim S1x256x1024x1 ![0, 1, 2, 3] bcast_S1x1x1024x1_S1x256x1024x1_0_1_2_3
    (broadcastInDim S1x1x1024x1 ![2] bcast_S1024_S1x1x1024x1_2 anyKey))
    (broadcastInDim S1x256x1024x1 ![0, 1, 2] bcast_S1x256x1024_S1x256x1024x1_0_1_2 (Host.reduceAdd EX
    (constant S_ .f32 0x00000000#32) reducesTo_S1x256x1024x1024_S1x256x1024_d3 h_S_))
    (broadcastInDim S1x256x1024x1 ![] bcast_S_S1x256x1024x1 (id (constant S_ .f32 0x3F800000#32))))))
    (broadcastInDim S1x256x1024x1024 ![] bcast_S_S1x256x1024x1024 (id (constant S_ .f32 0x00000000#32)))

/-- The heads' attention, side by side. -/
def context (W : FVec Ideal S1x256x1024x1024 .f32) (V : FVec Ideal S1x1024x256x128 .bf16) : FVec Ideal S1x1024x32768 .f32 :=
  shapeCast _ (transpose S1x1024x256x128 [0, 3, 1, 2]
    (Host.dotGeneral dot_S1x1024x256x128_S1x256x1024x1024_S1x256x128x1024_1_3_3_2_02_01 none
    (extf .f32 V bitsLt_bf16_f32) W) transposes_S1x256x128x1024_S1x1024x256x128_0_3_1_2) shapeCasts_S1x1024x256x128_S1x1024x32768

/-- The projection. -/
def output (CT : FVec Ideal S1x1024x32768 .f32) (WO : FVec Ideal S32768x1024 .bf16) : FVec Ideal S1x1024x1024 .f32 :=
  Host.dotGeneral dot_S1x1024x32768_S32768x1024_S1x1024x1024_2_0_01_1_n_n none CT (extf .f32 WO bitsLt_bf16_f32)

/-- The reference's result is the stages, one after another. -/
theorem result_eq (m : (ℓ : Loc nD τ sig) → Buf (Elt Ideal) ℓ) (c : Dev nD) :
    Value.res_main_v49 m c
      = output (context (weights (expo (scores (queries (m ((c.tc : Thread nD τ).loc main_arg0)) (m ((c.tc : Thread nD τ).loc main_arg1)))
          (m ((c.tc : Thread nD τ).loc main_arg2))))) (m ((c.tc : Thread nD τ).loc main_arg3))) (m ((c.tc : Thread nD τ).loc main_arg4)) := rfl

end Cert.ReferenceIdeal.Stages

end
-- ==== Proof.RefValue.lean ====
/- The reference's result at an index: the sum over all columns of the heads' attention times the output weights. -/
module

public import proofs.«01_k».proof.Proof.Stages
public import proofs.«01_k».proof.Proof.Attention

@[expose] public section

noncomputable section

namespace Cert.ReferenceIdeal.Stages

open Idealize.ShloMosaic Cert.Attention
open Cert.ReferenceIdeal.Gen

set_option maxRecDepth 16384

/-- A position's block is its number divided by 64. -/
theorem blockIds_apply (i : Fin 1024) : blockIds (ix1 i) = BitVec.ofNat 32 (blockOf i).val := by
  pointwise [blockIds]
  show _ = BitVec.ofNat 32 (i.val / 64)
  revert i
  decide

/-- The mask's bit, computed from the two blocks' words. -/
def maskBit (u v : BitVec 32) : BitVec 1 :=
  IntOp.ori (IntOp.ori (IntOp.cmpi .eq u v) (IntOp.cmpi .eq v 0#32))
    (IntOp.cmpi .eq
      (Scalar.select
        (IntOp.andi
          (IntOp.cmpi .ne (IntOp.cmpi .slt (IntOp.remsi .host (IntOp.addi u v) 3#32) 0#32) (IntOp.cmpi .slt 3#32 0#32))
          (IntOp.cmpi .ne (IntOp.remsi .host (IntOp.addi u v) 3#32) 0#32))
        (IntOp.addi (IntOp.remsi .host (IntOp.addi u v) 3#32) 3#32)
        (IntOp.remsi .host (IntOp.addi u v) 3#32))
      0#32)

/-- The mask's bit of two blocks: the same block, the first one, or numbers whose sum is divisible by three. -/
theorem maskBit_blocks : ∀ a b : Fin 16, maskBit (BitVec.ofNat 32 a.val) (BitVec.ofNat 32 b.val)
    = BitVec.ofBool (decide (a.val = b.val ∨ b.val = 0 ∨ (a.val + b.val) % 3 = 0)) := by decide

/-- The mask is that bit, at every query and key. -/
theorem mask_bit (i j : Fin 1024) : mask (ix2 i j) = maskBit (blockIds (ix1 i)) (blockIds (ix1 j)) := by
  pointwise [mask, blockSum, three]
  rfl

/-- The mask's bit is set where the query sees the key. -/
theorem mask_apply (i j : Fin 1024) : mask (ix2 i j) = BitVec.ofBool (decide (Sees i j)) := by
  rw [mask_bit, blockIds_apply, blockIds_apply, maskBit_blocks]
  exact congrArg BitVec.ofBool (decide_eq_decide.mpr (sees_iff i j (blockOf i) (blockOf j) rfl rfl).symm)

/-- Every query sees some key. -/
theorem anyKey_apply (i : Fin 1024) : anyKey (ix1 i) = 1#1 := by
  pointwise [anyKey]
  have h : (Finset.univ : Finset (Fin 1024)) = insert 0 (Finset.univ.erase 0) := (Finset.insert_erase (Finset.mem_univ _)).symm
  rw [h, Finset.fold_insert (Finset.notMem_erase _ _), mask_apply, decide_eq_true (sees_first i)]
  generalize Finset.fold IntOp.ori (0#1) _ _ = b
  revert b
  decide

/-- A head's queries: the input's row times the head's columns of the query weights. -/
theorem queries_apply (X : FVec Ideal S1x1024x1024 .bf16) (WQ : FVec Ideal S1024x32768 .bf16) (h : Fin 256) (i : Fin 1024) (d : Fin 128) :
    queries X WQ (ix4 0 i h d)
      = ∑ x, X (ix3 0 i x) * WQ (ix2 x ⟨h.val * 128 + d.val, by have := h.isLt; have := d.isLt; omega⟩) := by
  pointwise [queries]

/-- The masked score of a key for a query. -/
theorem scores_apply (Q K : FVec Ideal S1x1024x256x128 .bf16) (h : Fin 256) (i j : Fin 1024) :
    scores Q K (ix4 0 h i j) = score (fun i d => Q (ix4 0 i h d)) (fun j d => K (ix4 0 j h d)) i j := by
  pointwise [scores]
  rw [mask_apply, Scalar.select_decide]
  unfold score
  by_cases hs : Sees i j
  · rw [if_pos hs, if_pos hs]; rfl
  · rw [if_neg hs, if_neg hs]; exact word_bot

/-- The exponential of a score less its row's maximum. -/
theorem expo_apply (S : FVec Ideal S1x256x1024x1024 .f32) (h : Fin 256) (i j : Fin 1024) :
    expo S (ix4 0 h i j) = expRow (fun j => S (ix4 0 h i j)) j := by
  pointwise [expo]
  rw [word_bot]
  rfl

/-- A weight is an exponential divided by its row's sum, since every query sees some key. -/
theorem weights_apply (E : FVec Ideal S1x256x1024x1024 .f32) (h : Fin 256) (i j : Fin 1024) :
    weights E (ix4 0 h i j) = Ideal.div (E (ix4 0 h i j)) (∑ x, E (ix4 0 h i x)) := by
  pointwise [weights]
  rw [anyKey_apply]
  rfl

/-- A column of the heads' attention: the weights times the values of the head that the column belongs to. -/
theorem context_apply (W : FVec Ideal S1x256x1024x1024 .f32) (V : FVec Ideal S1x1024x256x128 .bf16) (i : Fin 1024) (n : Fin 32768) :
    context W V (ix3 0 i n)
      = ∑ x, W (ix4 0 ⟨n.val / 128, by have := n.isLt; omega⟩ i x)
          * V (ix4 0 x ⟨n.val / 128, by have := n.isLt; omega⟩ ⟨n.val % 128, Nat.mod_lt _ (by decide)⟩) := by
  pointwise [context]
  exact Finset.sum_congr rfl fun _ _ => mul_comm _ _

/-- The projection at an index. -/
theorem output_apply (C : FVec Ideal S1x1024x32768 .f32) (WO : FVec Ideal S32768x1024 .bf16) (i j : Fin 1024) :
    output C WO (ix3 0 i j) = ∑ n, C (ix3 0 i n) * WO (ix2 n j) := by
  pointwise [output]

/-- The weights of a row of scores. -/
theorem weights_expo_apply (S : FVec Ideal S1x256x1024x1024 .f32) (h : Fin 256) (i j : Fin 1024) :
    weights (expo S) (ix4 0 h i j) = weight (fun j => S (ix4 0 h i j)) j := by
  rw [weights_apply]
  simp only [expo_apply]
  rfl

/-- A head's attention, from the queries, the keys and the values. -/
theorem attention_apply (Q K V : FVec Ideal S1x1024x256x128 .bf16) (i : Fin 1024) (n : Fin 32768) :
    context (weights (expo (scores Q K))) V (ix3 0 i n)
      = head (fun i d => Q (ix4 0 i ⟨n.val / 128, by have := n.isLt; omega⟩ d))
          (fun j d => K (ix4 0 j ⟨n.val / 128, by have := n.isLt; omega⟩ d))
          (fun j d => V (ix4 0 j ⟨n.val / 128, by have := n.isLt; omega⟩ d)) i ⟨n.val % 128, Nat.mod_lt _ (by decide)⟩ := by
  rw [context_apply]
  unfold head
  refine Finset.sum_congr rfl fun x _ => ?_
  rw [weights_expo_apply]
  simp only [scores_apply]

/-- The reference's result at an index. -/
theorem stages_apply (X : FVec Ideal S1x1024x1024 .bf16) (WQ : FVec Ideal S1024x32768 .bf16) (K V : FVec Ideal S1x1024x256x128 .bf16)
    (WO : FVec Ideal S32768x1024 .bf16) (i j : Fin 1024) :
    output (context (weights (expo (scores (queries X WQ) K))) V) WO (ix3 0 i j)
      = ∑ n : Fin 32768, head
          (fun i d => ∑ x, X (ix3 0 i x) * WQ (ix2 x ⟨n.val / 128 * 128 + d.val, by have := n.isLt; have := d.isLt; omega⟩))
          (fun j d => K (ix4 0 j ⟨n.val / 128, by have := n.isLt; omega⟩ d))
          (fun j d => V (ix4 0 j ⟨n.val / 128, by have := n.isLt; omega⟩ d)) i ⟨n.val % 128, Nat.mod_lt _ (by decide)⟩
        * WO (ix2 n j) := by
  rw [output_apply]
  refine Finset.sum_congr rfl fun n _ => ?_
  rw [attention_apply]
  simp only [queries_apply]

end Cert.ReferenceIdeal.Stages

end
-- ==== Proof.Value.lean ====
/- The kernel's result is the reference's: every device's eight heads are a block of the reference's 256, and the sum of the
   devices' parts is the reference's sum over all columns. -/
module

public import proofs.«01_k».proof.Proof.Inputs
public import proofs.«01_k».proof.Proof.KerValue
public import proofs.«01_k».proof.Proof.RefValue
public import proofs.«01_k».proof.Proof.Frames
public import Idealize.ShloMosaic.Lib.Layout

@[expose] public section

noncomputable section

namespace Cert.Proof

open Idealize.ShloMosaic Idealize.SL.Sem Cert.Attention
open Cert.KernelIdeal.RingSum Cert.KernelIdeal.Gen

set_option maxRecDepth 16384

/-- A block of eight heads, read in the array of all heads. -/
theorem heads_block (c : Fin 32) (v : (⟨4, ![1, 1024, 256, 128]⟩ : Shape).Idx → EReal) (j : Fin 1024) (h : Fin 8) (d : Fin 128) :
    Layout.block ⟨4, ![1, 1024, 8, 128]⟩ ⟨4, ![1, 1024, 256, 128]⟩ 2 32 c v (by decide) (ix4 0 j h d)
      = v (ix4 0 j ⟨8 * c.val + h.val, by have := c.isLt; have := h.isLt; omega⟩ d) := by
  rw [Layout.block_apply]
  refine congrArg v (funext fun a => ?_)
  match a with
  | 0 => rfl
  | 1 => rfl
  | 2 => exact Fin.ext (show c.val * 8 + h.val = 8 * c.val + h.val by omega)
  | 3 => rfl

/-- Device `c`'s own part, over the whole arrays. -/
theorem part_apply (m : (ℓ : Loc Cert.KernelIdeal.nD Cert.KernelIdeal.τ Cert.KernelIdeal.sig) → Buf (Elt Ideal) ℓ) (c : Dev Cert.KernelIdeal.nD)
    (X : FVec Ideal Cert.ReferenceIdeal.S1x1024x1024 .bf16) (WQ : FVec Ideal Cert.ReferenceIdeal.S1024x32768 .bf16)
    (K V : FVec Ideal Cert.ReferenceIdeal.S1x1024x256x128 .bf16) (WO : FVec Ideal Cert.ReferenceIdeal.S32768x1024 .bf16)
    (hX : m ((c.tc : Thread Cert.KernelIdeal.nD Cert.KernelIdeal.τ).loc Cert.KernelIdeal.main_arg0) = X)
    (hWQ : m ((c.tc : Thread Cert.KernelIdeal.nD Cert.KernelIdeal.τ).loc Cert.KernelIdeal.main_arg1) = WQ)
    (hK : m ((c.tc : Thread Cert.KernelIdeal.nD Cert.KernelIdeal.τ).loc Cert.KernelIdeal.main_arg2)
      = Layout.block ⟨4, ![1, 1024, 8, 128]⟩ ⟨4, ![1, 1024, 256, 128]⟩ 2 32 c K)
    (hV : m ((c.tc : Thread Cert.KernelIdeal.nD Cert.KernelIdeal.τ).loc Cert.KernelIdeal.main_arg3)
      = Layout.block ⟨4, ![1, 1024, 8, 128]⟩ ⟨4, ![1, 1024, 256, 128]⟩ 2 32 c V)
    (hWO : m ((c.tc : Thread Cert.KernelIdeal.nD Cert.KernelIdeal.τ).loc Cert.KernelIdeal.main_arg4) = WO)
    (i j : Fin 1024) :
    part (V1 m) c (ix2 i j)
      = ∑ n : Fin 1024, head
          (fun i d => ∑ x, X (ix3 0 i x) * WQ (ix2 x ⟨(1024 * c.val + n.val) / 128 * 128 + d.val, by
            have := dev_lt c; have := n.isLt; have := d.isLt; omega⟩))
          (fun j d => K (ix4 0 j ⟨(1024 * c.val + n.val) / 128, by have := dev_lt c; have := n.isLt; omega⟩ d))
          (fun j d => V (ix4 0 j ⟨(1024 * c.val + n.val) / 128, by have := dev_lt c; have := n.isLt; omega⟩ d)) i
          ⟨(1024 * c.val + n.val) % 128, Nat.mod_lt _ (by decide)⟩
        * WO (ix2 ⟨1024 * c.val + n.val, ownCol_lt c n⟩ j) := by
  unfold part
  rw [ownVal_apply]
  refine Finset.sum_congr rfl fun n _ => ?_
  have hn := n.isLt
  have hc := dev_lt c
  rw [headVal_apply]
  simp only [inX_apply, inWq_apply, inK_apply, inV_apply, inWo_apply]
  rw [hX, hWQ, hK, hV, hWO]
  simp only [heads_block]
  have e1 : ∀ d : Fin 128, (⟨1024 * c.val + (128 * (n.val / 128) + d.val), by have := d.isLt; omega⟩ : Fin 32768)
      = ⟨(1024 * c.val + n.val) / 128 * 128 + d.val, by have := d.isLt; omega⟩ := fun d => Fin.ext (by
    show 1024 * c.val + (128 * (n.val / 128) + d.val) = (1024 * c.val + n.val) / 128 * 128 + d.val; omega)
  have e2 : (⟨8 * c.val + n.val / 128, by omega⟩ : Fin 256) = ⟨(1024 * c.val + n.val) / 128, by omega⟩ := Fin.ext (by
    show 8 * c.val + n.val / 128 = (1024 * c.val + n.val) / 128; omega)
  have e3 : (⟨n.val % 128, Nat.mod_lt _ (by decide)⟩ : Fin 128) = ⟨(1024 * c.val + n.val) % 128, Nat.mod_lt _ (by decide)⟩ :=
    Fin.ext (by show n.val % 128 = (1024 * c.val + n.val) % 128; omega)
  simp only [e1, e2, e3]

/-- Over the whole arrays, the kernel's result is the reference's. -/
theorem result_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0)
        = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1)
        = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2)
        = Layout.block ⟨4, ![1, 1024, 8, 128]⟩ ⟨4, ![1, 1024, 256, 128]⟩ 2 32 c
          (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3)
        = Layout.block ⟨4, ![1, 1024, 8, 128]⟩ ⟨4, ![1, 1024, 256, 128]⟩ 2 32 c
          (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4)
        = m' (((0 : Dev Cert.ReferenceIdeal.nD).tc : Thread Cert.ReferenceIdeal.nD Cert.ReferenceIdeal.τ).loc Cert.ReferenceIdeal.main_arg4)) :
    resultVal (F := Ideal) m = Cert.ReferenceIdeal.Value.res_main_v49 (F := Ideal) m' 0 := by
  rw [Cert.ReferenceIdeal.Stages.result_eq]
  refine funext fun x => ?_
  obtain ⟨a, i, j, rfl⟩ : ∃ (a : Fin 1) (i j : Fin 1024), x = ix3 a i j :=
    ⟨x 0, x 1, x 2, funext fun k => match k with | 0 => rfl | 1 => rfl | 2 => rfl⟩
  obtain rfl : a = 0 := Subsingleton.elim _ _
  refine Eq.trans ?_ (Cert.ReferenceIdeal.Stages.stages_apply _ _ _ _ _ i j).symm
  have hl : resultVal (F := Ideal) m (ix3 0 i j) = summed (V1 m) (ix2 i j) := by pointwise [resultVal]
  refine (hl.trans (result_apply _ _)).trans (@Eq.trans EReal _ _ _ ?_ (sum_devices _).symm)
  exact Finset.sum_congr rfl fun c _ =>
    part_apply m c _ _ _ _ _ (h c).1 (h c).2.1 (h c).2.2.1 (h c).2.2.2.1 (h c).2.2.2.2 i j

/-- Over the extended reals kernel and reference compute the same array: every device ends with the reference's result. -/
theorem algebraic : Cert.algebraic_KernelIdeal_ReferenceIdeal := fun m g m' g' _ h => by
  refine ⟨Cert.ReferenceIdeal.Value.res_main_v49 (F := Ideal) m' 0, ?_, ?_⟩
  · refine (θ_run Cert.KernelIdeal.defs _ _).mono (fun r hr c => ?_) (Cert.KernelIdeal.RingSum.run_main (F := Ideal) m g)
    exact ⟨(hr.1 c).2.trans (result_value m m' h), (hr.1 c).1⟩
  · exact (θ_run Cert.ReferenceIdeal.defs _ _).mono (fun r hr => hr 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernel_ideal, frame_reference, preserves, algebraic⟩

end Cert.Proof

end
